-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x512 : Shape := ⟨2, ![2048, 512]⟩
abbrev S4x512x2048 : Shape := ⟨3, ![4, 512, 2048]⟩
abbrev S8 : Shape := ⟨1, ![8]⟩
abbrev S_ : Shape := ⟨0, ![]⟩
abbrev S1 : Shape := ⟨1, ![1]⟩
abbrev S1x272x2048 : Shape := ⟨3, ![1, 272, 2048]⟩
abbrev S272x2048 : Shape := ⟨2, ![272, 2048]⟩
abbrev S512x512 : Shape := ⟨2, ![512, 512]⟩
abbrev S1x256x2048 : Shape := ⟨3, ![1, 256, 2048]⟩
abbrev S256x2048 : Shape := ⟨2, ![256, 2048]⟩
abbrev S1x208x2048 : Shape := ⟨3, ![1, 208, 2048]⟩
abbrev S208x2048 : Shape := ⟨2, ![208, 2048]⟩
abbrev S1x32x2048 : Shape := ⟨3, ![1, 32, 2048]⟩
abbrev S32x2048 : Shape := ⟨2, ![32, 2048]⟩
abbrev S272x512 : Shape := ⟨2, ![272, 512]⟩
abbrev S1x512x2048 : Shape := ⟨3, ![1, 512, 2048]⟩
abbrev S208x512 : Shape := ⟨2, ![208, 512]⟩
abbrev S32x512 : Shape := ⟨2, ![32, 512]⟩

abbrev nBuf : Space → Nat
  | .hbm => 3
  | .vmem => 4
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S2048x512, .f32⟩
  | .local _ .vmem, ⟨0, _⟩ => ⟨S512x2048, .f32⟩
  | .local _ .vmem, ⟨1, _⟩ => ⟨S2048x512, .f32⟩
  | .local _ .vmem, ⟨2, _⟩ => ⟨S2048x512, .f32⟩
  | .local _ .vmem, ⟨3, _⟩ => ⟨S4x512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_30 : BitVec 32 := 0#32
  let c0_i32_31 : BitVec 32 := 0#32
  ![v2.toNat, 0, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28 : BitVec 32 := 1#32
  let v41 : BitVec 32 := Scalar.muli v24 c1_i32_28
  let v42 : BitVec 32 := Scalar.addi c0_i32_29 v41
  v42.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c240_i32 : BitVec 32 := 240#32
  let c0_i32_38 : BitVec 32 := 0#32
  ![v2.toNat, 240, 0]
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_36 : BitVec 32 := 1#32
  let v50 : BitVec 32 := Scalar.muli v13 c1_i32_36
  let v51 : BitVec 32 := Scalar.addi c0_i32_37 v50
  v51.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v77 : BitVec 32 := Scalar.muli v2 c512_i32
  let v78 : Index := Scalar.indexCast v77
  let c0_48 : Index := 0#32
  ![v78.toNat, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_53 : BitVec 32 := 0#32
  let c0_i32_54 : BitVec 32 := 0#32
  ![v13.toNat, 0, 0]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_61 : BitVec 32 := 0#32
  let c0_i32_62 : BitVec 32 := 0#32
  ![v13.toNat, 0, 0]
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_59 : BitVec 32 := 1#32
  let v88 : BitVec 32 := Scalar.muli v24 c1_i32_59
  let v89 : BitVec 32 := Scalar.addi c0_i32_60 v88
  v89.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c272_i32 : BitVec 32 := 272#32
  let c0_i32_69 : BitVec 32 := 0#32
  ![v2.toNat, 272, 0]
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_67 : BitVec 32 := 1#32
  let v98 : BitVec 32 := Scalar.muli v24 c1_i32_67
  let v99 : BitVec 32 := Scalar.addi c0_i32_68 v98
  v99.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c480_i32 : BitVec 32 := 480#32
  let c0_i32_75 : BitVec 32 := 0#32
  ![v2.toNat, 480, 0]
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_73 : BitVec 32 := 1#32
  let v107 : BitVec 32 := Scalar.muli v24 c1_i32_73
  let v108 : BitVec 32 := Scalar.addi c0_i32_74 v107
  v108.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c240_i32_82 : BitVec 32 := 240#32
  let c0_i32_83 : BitVec 32 := 0#32
  ![v24.toNat, 240, 0]
def k0_off9 (d0 : Dev nD) (c1_i32_6 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32 : BitVec 32 := 256#32
  let c0_i32_89 : BitVec 32 := 0#32
  ![v24.toNat, 256, 0]
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_87 : BitVec 32 := 1#32
  let v124 : BitVec 32 := Scalar.muli v13 c1_i32_87
  let v125 : BitVec 32 := Scalar.addi c0_i32_88 v124
  v125.toNat
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c32_i32 : BitVec 32 := 32#32
  let c0_i32_95 : BitVec 32 := 0#32
  ![v2.toNat, 32, 0]
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_93 : BitVec 32 := 1#32
  let v134 : BitVec 32 := Scalar.muli v13 c1_i32_93
  let v135 : BitVec 32 := Scalar.addi c0_i32_94 v134
  v135.toNat
def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_101 : BitVec 32 := 0#32
  let c0_i32_102 : BitVec 32 := 0#32
  ![v2.toNat, 0, 0]
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_99 : BitVec 32 := 1#32
  let v143 : BitVec 32 := Scalar.muli v13 c1_i32_99
  let v144 : BitVec 32 := Scalar.addi c0_i32_100 v143
  v144.toNat
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v152 : Index := Scalar.indexCast v13
  let c0_105 : Index := 0#32
  let c0_106 : Index := 0#32
  ![v152.toNat, 0, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_114 : BitVec 32 := 512#32
  let v171 : BitVec 32 := Scalar.muli v13 c512_i32_114
  let c0_i32_115 : BitVec 32 := 0#32
  let v172 : BitVec 32 := Scalar.addi v171 c0_i32_115
  let v173 : Index := Scalar.indexCast v172
  let c0_116 : Index := 0#32
  ![v173.toNat, 0]
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v175 : Index := Scalar.indexCast v24
  let c240 : Index := 240#32
  let c0_117 : Index := 0#32
  ![v175.toNat, 240, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c512_i32_125 : BitVec 32 := 512#32
  let v194 : BitVec 32 := Scalar.muli v24 c512_i32_125
  let c240_i32_126 : BitVec 32 := 240#32
  let v195 : BitVec 32 := Scalar.addi v194 c240_i32_126
  let v196 : Index := Scalar.indexCast v195
  let c0_127 : Index := 0#32
  ![v196.toNat, 0]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c0_i32_132 : BitVec 32 := 0#32
  let c0_i32_133 : BitVec 32 := 0#32
  ![v35.toNat, 0, 0]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v214 : Index := Scalar.indexCast v35
  let c0_144 : Index := 0#32
  let c0_145 : Index := 0#32
  ![v214.toNat, 0, 0]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c512_i32_153 : BitVec 32 := 512#32
  let v233 : BitVec 32 := Scalar.muli v35 c512_i32_153
  let c0_i32_154 : BitVec 32 := 0#32
  let v234 : BitVec 32 := Scalar.addi v233 c0_i32_154
  let v235 : Index := Scalar.indexCast v234
  let c0_155 : Index := 0#32
  ![v235.toNat, 0]
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c272_i32_160 : BitVec 32 := 272#32
  let c0_i32_161 : BitVec 32 := 0#32
  ![v13.toNat, 272, 0]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v245 : Index := Scalar.indexCast v13
  let c272 : Index := 272#32
  let c0_164 : Index := 0#32
  ![v245.toNat, 272, 0]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_172 : BitVec 32 := 512#32
  let v264 : BitVec 32 := Scalar.muli v13 c512_i32_172
  let c272_i32_173 : BitVec 32 := 272#32
  let v265 : BitVec 32 := Scalar.addi v264 c272_i32_173
  let v266 : Index := Scalar.indexCast v265
  let c0_174 : Index := 0#32
  ![v266.toNat, 0]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c32_i32_179 : BitVec 32 := 32#32
  let c0_i32_180 : BitVec 32 := 0#32
  ![v24.toNat, 32, 0]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v276 : Index := Scalar.indexCast v24
  let c32 : Index := 32#32
  let c0_183 : Index := 0#32
  ![v276.toNat, 32, 0]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c512_i32_191 : BitVec 32 := 512#32
  let v295 : BitVec 32 := Scalar.muli v24 c512_i32_191
  let c32_i32_192 : BitVec 32 := 32#32
  let v296 : BitVec 32 := Scalar.addi v295 c32_i32_192
  let v297 : Index := Scalar.indexCast v296
  let c0_193 : Index := 0#32
  ![v297.toNat, 0]
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c480_i32_198 : BitVec 32 := 480#32
  let c0_i32_199 : BitVec 32 := 0#32
  ![v13.toNat, 480, 0]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v307 : Index := Scalar.indexCast v13
  let c480 : Index := 480#32
  let c0_202 : Index := 0#32
  ![v307.toNat, 480, 0]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_210 : BitVec 32 := 512#32
  let v326 : BitVec 32 := Scalar.muli v13 c512_i32_210
  let c480_i32_211 : BitVec 32 := 480#32
  let v327 : BitVec 32 := Scalar.addi v326 c480_i32_211
  let v328 : Index := Scalar.indexCast v327
  let c0_212 : Index := 0#32
  ![v328.toNat, 0]
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c0_i32_217 : BitVec 32 := 0#32
  let c0_i32_218 : BitVec 32 := 0#32
  ![v24.toNat, 0, 0]
def k0_off29 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v338 : Index := Scalar.indexCast v24
  let c0_221 : Index := 0#32
  let c0_222 : Index := 0#32
  ![v338.toNat, 0, 0]
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c512_i32_230 : BitVec 32 := 512#32
  let v357 : BitVec 32 := Scalar.muli v24 c512_i32_230
  let c0_i32_231 : BitVec 32 := 0#32
  let v358 : BitVec 32 := Scalar.addi v357 c0_i32_231
  let v359 : Index := Scalar.indexCast v358
  let c0_232 : Index := 0#32
  ![v359.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ring.lean ====
/-
# The ring of devices, the eight transfers, and the kernel's indices in closed form

Each device has a left and a right neighbour and one device across. A device makes eight remote copies, four to the right
(slots 0–3) and four to the left (slots 4–7); slots 1 and 5 pass on rows received from the other neighbour, the others send
rows of the device's own chunk. This module states who sends what to whom and the closed form of each index the kernel
computes.
-/
module

public import proofs.«01_k».proof.Proof.Gen.KernelIdeal
public import proofs.«01_k».proof.Proof.Gen.KernelIdeal.Skeleton

@[expose] public section

namespace Cert.AllGather

open Cert.KernelIdeal Cert.KernelIdeal.Gen
open Idealize.ShloMosaic

/-! ## Neighbours -/

set_option backward.proofsInPublic true in
/-- The device before `c`. -/
def left (c : Dev nD) : Dev nD := ⟨(c.val + 3) % 4, Nat.mod_lt _ (by decide)⟩
set_option backward.proofsInPublic true in
/-- The device after `c`. -/
def right (c : Dev nD) : Dev nD := ⟨(c.val + 1) % 4, Nat.mod_lt _ (by decide)⟩
set_option backward.proofsInPublic true in
/-- The device two steps from `c`. -/
def across (c : Dev nD) : Dev nD := ⟨(c.val + 2) % 4, Nat.mod_lt _ (by decide)⟩

theorem left_right (c : Dev nD) : left (right c) = c := by revert c; decide
theorem right_left (c : Dev nD) : right (left c) = c := by revert c; decide

/-- Going right is a permutation of the devices. -/
def ring : Dev nD ≃ Dev nD := ⟨right, left, left_right, right_left⟩

/-- Every device is `c`, a neighbour of `c`, or across from it. -/
theorem dev_cases (c o : Dev nD) : o = c ∨ o = left c ∨ o = right c ∨ o = across c := by revert c o; decide

/-! ## The eight transfers -/

/-- The device that slot `s` of device `c` sends to. -/
def tgt (s : Fin 8) (c : Dev nD) : Dev nD := if s.val < 4 then right c else left c
/-- The device whose slot `s` sends to `c`. -/
def src (s : Fin 8) (c : Dev nD) : Dev nD := if s.val < 4 then left c else right c
/-- The chunk whose rows slot `s` of device `c` sends. -/
def org (s : Fin 8) (c : Dev nD) : Dev nD := if s = 1 then left c else if s = 5 then right c else c
/-- The chunk whose rows device `c` receives in slot `s`. -/
def rorg (s : Fin 8) (c : Dev nD) : Dev nD := org s (src s c)
/-- The first row of the chunk slot `s` carries. -/
def lo : Fin 8 → ℕ := ![0, 0, 272, 480, 240, 256, 32, 0]
/-- The number of rows slot `s` carries. -/
def len : Fin 8 → ℕ := ![272, 256, 208, 32, 272, 256, 208, 32]

theorem src_tgt (s : Fin 8) (c : Dev nD) : src s (tgt s c) = c := by revert s c; decide
theorem tgt_src (s : Fin 8) (c : Dev nD) : tgt s (src s c) = c := by revert s c; decide
theorem rorg_tgt (s : Fin 8) (c : Dev nD) : rorg s (tgt s c) = org s c := by unfold rorg; rw [src_tgt]

/-- Sending in slot `s` is a permutation of the devices. -/
def tgtEquiv (s : Fin 8) : Dev nD ≃ Dev nD := ⟨tgt s, src s, src_tgt s, tgt_src s⟩

theorem rorg_one (c : Dev nD) : rorg 1 c = across c := by revert c; decide
theorem rorg_five (c : Dev nD) : rorg 5 c = across c := by revert c; decide

/-- No device receives rows of its own chunk. -/
theorem rorg_ne (c : Dev nD) (s : Fin 8) : rorg s c ≠ c := by revert c s; decide
/-- Two slots' received rows are of different chunks, or one's come before the other's. -/
theorem rorg_apart (c : Dev nD) (s s' : Fin 8) (h : s ≠ s') :
    rorg s c ≠ rorg s' c ∨ lo s + len s ≤ lo s' ∨ lo s' + len s' ≤ lo s := by revert c s s' h; decide

/-! ## Device ids the kernel computes -/

theorem dev1_eq (c : Dev nD) : (⟨k0_dev1 c, k0_dev1_lt c⟩ : Dev nD) = left c := by revert c; decide +kernel
theorem dev2_eq (c : Dev nD) : (⟨k0_dev2 c, k0_dev2_lt c⟩ : Dev nD) = right c := by revert c; decide +kernel
theorem dev3_eq (c : Dev nD) : (⟨k0_dev3 c, k0_dev3_lt c⟩ : Dev nD) = tgt 0 c := by revert c; decide +kernel
theorem dev4_eq (c : Dev nD) : (⟨k0_dev4 c, k0_dev4_lt c⟩ : Dev nD) = tgt 4 c := by revert c; decide +kernel
theorem dev5_eq (c : Dev nD) : (⟨k0_dev5 c, k0_dev5_lt c⟩ : Dev nD) = tgt 1 c := by revert c; decide +kernel
theorem dev6_eq (c : Dev nD) : (⟨k0_dev6 c, k0_dev6_lt c⟩ : Dev nD) = tgt 2 c := by revert c; decide +kernel
theorem dev7_eq (c : Dev nD) : (⟨k0_dev7 c, k0_dev7_lt c⟩ : Dev nD) = tgt 3 c := by revert c; decide +kernel
theorem dev8_eq (c : Dev nD) : (⟨k0_dev8 c, k0_dev8_lt c⟩ : Dev nD) = tgt 5 c := by revert c; decide +kernel
theorem dev9_eq (c : Dev nD) : (⟨k0_dev9 c, k0_dev9_lt c⟩ : Dev nD) = tgt 6 c := by revert c; decide +kernel
theorem dev10_eq (c : Dev nD) : (⟨k0_dev10 c, k0_dev10_lt c⟩ : Dev nD) = tgt 7 c := by revert c; decide +kernel

/-! ## Offsets the kernel computes -/

theorem off4_eq : ∀ c : Dev nD, k0_off4 c = ![(left c).val, 0, 0] := by decide +kernel
theorem off5_eq : ∀ c : Dev nD, k0_off5 c = ![(left c).val, 0, 0] := by decide +kernel
theorem off8_eq : ∀ c : Dev nD, k0_off8 c = ![(right c).val, 240, 0] := by decide +kernel
theorem off9_send_eq : ∀ c : Dev nD, k0_off9 c 1#32 = ![(right c).val, 256, 0] := by decide +kernel
theorem off9_recv_eq : ∀ c : Dev nD, k0_off9 c 2#32 = ![(across c).val, 256, 0] := by decide +kernel
theorem off12_eq : ∀ c : Dev nD, k0_off12 c = ![(left c).val, 0, 0] := by decide +kernel
theorem off13_eq : ∀ c : Dev nD, k0_off13 c = ![512 * (left c).val, 0] := by decide +kernel
theorem off14_eq : ∀ c : Dev nD, k0_off14 c = ![(right c).val, 240, 0] := by decide +kernel
theorem off15_eq : ∀ c : Dev nD, k0_off15 c = ![512 * (right c).val + 240, 0] := by decide +kernel
theorem off16_eq : ∀ c : Dev nD, k0_off16 c = ![(across c).val, 0, 0] := by decide +kernel
theorem off17_eq : ∀ c : Dev nD, k0_off17 c = ![(across c).val, 0, 0] := by decide +kernel
theorem off18_eq : ∀ c : Dev nD, k0_off18 c = ![512 * (across c).val, 0] := by decide +kernel
theorem off19_eq : ∀ c : Dev nD, k0_off19 c = ![(left c).val, 272, 0] := by decide +kernel
theorem off20_eq : ∀ c : Dev nD, k0_off20 c = ![(left c).val, 272, 0] := by decide +kernel
theorem off21_eq : ∀ c : Dev nD, k0_off21 c = ![512 * (left c).val + 272, 0] := by decide +kernel
theorem off22_eq : ∀ c : Dev nD, k0_off22 c = ![(right c).val, 32, 0] := by decide +kernel
theorem off23_eq : ∀ c : Dev nD, k0_off23 c = ![(right c).val, 32, 0] := by decide +kernel
theorem off24_eq : ∀ c : Dev nD, k0_off24 c = ![512 * (right c).val + 32, 0] := by decide +kernel
theorem off25_eq : ∀ c : Dev nD, k0_off25 c = ![(left c).val, 480, 0] := by decide +kernel
theorem off26_eq : ∀ c : Dev nD, k0_off26 c = ![(left c).val, 480, 0] := by decide +kernel
theorem off27_eq : ∀ c : Dev nD, k0_off27 c = ![512 * (left c).val + 480, 0] := by decide +kernel
theorem off28_eq : ∀ c : Dev nD, k0_off28 c = ![(right c).val, 0, 0] := by decide +kernel
theorem off29_eq : ∀ c : Dev nD, k0_off29 c = ![(right c).val, 0, 0] := by decide +kernel
theorem off30_eq : ∀ c : Dev nD, k0_off30 c = ![512 * (right c).val, 0] := by decide +kernel

end Cert.AllGather
-- ==== Proof.Contents.lean ====
/-
# What the buffers hold: rows of the gathered array, and the views that name them

Every device gathers the chunks of the other three into its own gather buffer. What any row of any device's gather buffer
holds after it has landed does not depend on the device: row `r` of chunk `o` is row `r` of device `o`'s own operand. This
module names that array (`gath`), the row ranges the transfers move, and shows that the kernel's slices are those ranges.
-/
module

public import proofs.«01_k».proof.Proof.Ring
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.ViewIndex

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 reshapeEquiv_ix2_1ab)

variable {F : FTy → Type}

/-- The rounds library's resources: the pipeline's copy and this protocol's (duties named by `Bool`). -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .vmem S512x2048 .f32 := Memref.whole cc0_stg0_0
abbrev wM : Memref sig .tc .vmem S2048x512 .f32 := Memref.whole cc0_stg1_0
abbrev oM : Memref sig .tc .vmem S2048x512 .f32 := Memref.whole cc0_stg2_0
abbrev gxM : Memref sig .tc .vmem S4x512x2048 .f32 := Memref.whole cc0_scratch0

/-! ## Row ranges -/

/-- Rows `l … l + n - 1` of chunk `o` of the gather buffer. -/
def reg (o : Dev nD) (l n : ℕ) : Finset S4x512x2048.Idx :=
  Finset.univ.filter fun i => (i 0).val = o.val ∧ l ≤ (i 1).val ∧ (i 1).val < l + n

/-- Rows `l … l + n - 1` of a device's own operand. -/
def xrows (l n : ℕ) : Finset S512x2048.Idx := Finset.univ.filter fun i => l ≤ (i 0).val ∧ (i 0).val < l + n

theorem mem_reg {o : Dev nD} {l n : ℕ} {i : S4x512x2048.Idx} : i ∈ reg o l n ↔ (i 0).val = o.val ∧ l ≤ (i 1).val ∧ (i 1).val < l + n := by
  simp [reg]
theorem mem_xrows {l n : ℕ} {i : S512x2048.Idx} : i ∈ xrows l n ↔ l ≤ (i 0).val ∧ (i 0).val < l + n := by simp [xrows]

theorem reg_subset (o : Dev nD) {l n l' n' : ℕ} (h : l' ≤ l) (h' : l + n ≤ l' + n') : reg o l n ⊆ reg o l' n' := fun i hi => by
  rw [mem_reg] at hi ⊢; omega

theorem reg_split (o : Dev nD) (l n k : ℕ) : reg o l (n + k) = reg o l n ∪ reg o (l + n) k := by
  ext i; rw [Finset.mem_union, mem_reg, mem_reg, mem_reg]; omega

theorem reg_disjoint {o o' : Dev nD} {l n l' n' : ℕ} (h : o ≠ o' ∨ l + n ≤ l' ∨ l' + n' ≤ l) : Disjoint (reg o l n) (reg o' l' n') :=
  Finset.disjoint_left.mpr fun i hi hi' => by
    rw [mem_reg] at hi hi'
    rcases h with h | h
    · exact h (Fin.ext (hi.1.symm.trans hi'.1))
    · omega

theorem xrows_split (l n k : ℕ) : xrows l (n + k) = xrows l n ∪ xrows (l + n) k := by
  ext i; rw [Finset.mem_union, mem_xrows, mem_xrows, mem_xrows]; omega

theorem xrows_disjoint {l n l' n' : ℕ} (h : l + n ≤ l' ∨ l' + n' ≤ l) : Disjoint (xrows l n) (xrows l' n') :=
  Finset.disjoint_left.mpr fun i hi hi' => by rw [mem_xrows] at hi hi'; omega

theorem xrows_all : xrows 0 512 = Finset.univ := by
  ext i; simp only [mem_xrows, Finset.mem_univ, iff_true]; exact ⟨Nat.zero_le _, by have : (i 0).val < 512 := (i 0).isLt; omega⟩

/-- The rows a device receives in slot `s`. -/
abbrev rreg (c : Dev nD) (s : Fin 8) : Finset S4x512x2048.Idx := reg (rorg s c) (lo s) (len s)

/-- The gather buffer is the device's own chunk, which nothing touches, and the eight received row ranges. -/
theorem gx_cover (c : Dev nD) : (Finset.univ : Finset S4x512x2048.Idx) = reg c 0 512 ∪ Finset.univ.biUnion (rreg c) := by
  refine (Finset.eq_univ_of_forall fun i => ?_).symm
  have h1 : (i 1).val < 512 := (i 1).isLt
  rw [Finset.mem_union, Finset.mem_biUnion]
  have hl : ∀ s : Fin 8, (i 0).val = (rorg s c).val → lo s ≤ (i 1).val → (i 1).val < lo s + len s → ∃ s ∈ Finset.univ, i ∈ rreg c s :=
    fun s h h' h'' => ⟨s, Finset.mem_univ _, mem_reg.mpr ⟨h, h', h''⟩⟩
  have hv : ∀ {o : Dev nD}, (i 0 : Dev nD) = o → (i 0).val = o.val := fun h => congrArg Fin.val h
  rcases dev_cases c (i 0) with h | h | h | h
  · exact .inl (mem_reg.mpr ⟨hv h, Nat.zero_le _, by omega⟩)
  · refine .inr ?_
    by_cases h2 : (i 1).val < 272
    · exact hl 0 (hv h) (Nat.zero_le _) (by show _ < 0 + 272; omega)
    by_cases h3 : (i 1).val < 480
    · exact hl 2 (hv h) (by show 272 ≤ _; omega) (by show _ < 272 + 208; omega)
    · exact hl 3 (hv h) (by show 480 ≤ _; omega) (by show _ < 480 + 32; omega)
  · refine .inr ?_
    by_cases h2 : (i 1).val < 32
    · exact hl 7 (hv h) (Nat.zero_le _) (by show _ < 0 + 32; omega)
    by_cases h3 : (i 1).val < 240
    · exact hl 6 (hv h) (by show 32 ≤ _; omega) (by show _ < 32 + 208; omega)
    · exact hl 4 (hv h) (by show 240 ≤ _; omega) (by show _ < 240 + 272; omega)
  · refine .inr ?_
    by_cases h2 : (i 1).val < 256
    · exact hl 1 (by rw [rorg_one]; exact hv h) (Nat.zero_le _) (by show _ < 0 + 256; omega)
    · exact hl 5 (by rw [rorg_five]; exact hv h) (by show 256 ≤ _; omega) (by show _ < 256 + 256; omega)

theorem own_disjoint (c : Dev nD) : Disjoint (reg c 0 512) (Finset.univ.biUnion (rreg c)) :=
  (Finset.disjoint_biUnion_right _ _ _).mpr fun s _ => reg_disjoint (.inl (rorg_ne c s).symm)

theorem rreg_disjoint (c : Dev nD) : ∀ s ∈ (Finset.univ : Finset (Fin 8)), ∀ s' ∈ (Finset.univ : Finset (Fin 8)), s ≠ s' → Disjoint (rreg c s) (rreg c s') :=
  fun s _ s' _ h => reg_disjoint (rorg_apart c s s' h)

/-! ## The kernel's slices -/

/-- A slice of `n` rows of one chunk of the gather buffer, as the kernel spells it. -/
abbrev gxSl (n : ℕ) (off : Fin 3 → ℕ) (inb : ∀ a, off a + (⟨3, ![1, n, 2048]⟩ : Shape).size a ≤ S4x512x2048.size a)
    (h : (⟨3, ![1, n, 2048]⟩ : Shape).Squeezes ⟨2, ![n, 2048]⟩) : Memref sig .tc .vmem ⟨2, ![n, 2048]⟩ .f32 :=
  (gxM.slice (Rect.unit (s := S4x512x2048) off (⟨3, ![1, n, 2048]⟩ : Shape).size inb) (fun _ => rfl)).squeeze ⟨2, ![n, 2048]⟩ h

/-- A slice of `n` rows of a device's own operand. -/
abbrev xSl (n : ℕ) (off : Fin 2 → ℕ) (inb : ∀ a, off a + (⟨2, ![n, 2048]⟩ : Shape).size a ≤ S512x2048.size a) :
    Memref sig .tc .vmem ⟨2, ![n, 2048]⟩ .f32 :=
  xM.slice (Rect.unit (s := S512x2048) off (⟨2, ![n, 2048]⟩ : Shape).size inb) (fun _ => rfl)

section Views

variable {n : ℕ} {o : Dev nD} {l : ℕ}

/-- A rectangle of `n` rows of one chunk is those rows. -/
theorem rect_set {off : Fin 3 → ℕ} (inb : ∀ a, off a + (⟨3, ![1, n, 2048]⟩ : Shape).size a ≤ S4x512x2048.size a)
    (ho : off = ![o.val, l, 0]) : (Rect.unit (s := S4x512x2048) off (⟨3, ![1, n, 2048]⟩ : Shape).size inb).set = reg o l n := by
  subst ho
  ext i
  rw [Rect.mem_set_unit, mem_reg]
  have h2 : (i 2).val < 2048 := (i 2).isLt
  constructor
  · intro h
    have h0 : o.val ≤ (i 0).val ∧ (i 0).val < o.val + 1 := h 0
    have h1 : l ≤ (i 1).val ∧ (i 1).val < l + n := h 1
    omega
  · rintro ⟨h0, h1, h1'⟩ a
    match a with
    | ⟨0, _⟩ => show o.val ≤ (i 0).val ∧ (i 0).val < o.val + 1; omega
    | ⟨1, _⟩ => show l ≤ (i 1).val ∧ (i 1).val < l + n; omega
    | ⟨2, _⟩ => show 0 ≤ (i 2).val ∧ (i 2).val < 0 + 2048; omega

/-- The kernel's slice of the gather buffer names those rows. -/
theorem gxSl_set {off : Fin 3 → ℕ} {inb} {h} (ho : off = ![o.val, l, 0]) : (gxSl n off inb h).view.set = reg o l n := by
  show (((View.whole cc0_scratch0).slice _).reshape _ _).set = _
  rw [View.set_reshape, View.set_slice_whole]
  exact rect_set inb ho

theorem xSl_set {off : Fin 2 → ℕ} {inb} (ho : off = ![l, 0]) : (xSl n off inb).view.set = xrows l n := by
  subst ho
  show ((View.whole cc0_stg0_0).slice _).set = _
  rw [View.set_slice_whole]
  ext i
  rw [Rect.mem_set_unit, mem_xrows]
  have h1 : (i 1).val < 2048 := (i 1).isLt
  constructor
  · intro h; exact h 0
  · intro h a
    match a with
    | ⟨0, _⟩ => exact h
    | ⟨1, _⟩ => show 0 ≤ (i 1).val ∧ (i 1).val < 0 + 2048; omega

variable (Val : EltTy → Type)

/-- What the kernel's slice of the gather buffer reads, at row `r` and column `k`. -/
theorem gxSl_read {off : Fin 3 → ℕ} {inb} {h} (ho : off = ![o.val, l, 0]) (f : S4x512x2048.Idx → Val .f32) (r : Fin n) (k : Fin 2048)
    (hr : l + r.val < 512) : (gxSl n off inb h).view.read Val f (ix2 r k) = f (ix3 (o : Fin 4) (⟨l + r.val, hr⟩ : Fin 512) k) := by
  subst ho
  show f ((Rect.unit (s := S4x512x2048) ![o.val, l, 0] (⟨3, ![1, n, 2048]⟩ : Shape).size inb).emb (Shape.reshapeEquiv _ (ix2 r k))) = _
  rw [reshapeEquiv_ix2_1ab]
  refine congrArg f (Shape.idx3_ext ?_ ?_ ?_)
  · show o.val + 1 * 0 = o.val; omega
  · show l + 1 * r.val = l + r.val; omega
  · show 0 + 1 * k.val = k.val; omega

theorem xSl_read {off : Fin 2 → ℕ} {inb} (ho : off = ![l, 0]) (f : S512x2048.Idx → Val .f32) (r : Fin n) (k : Fin 2048)
    (hr : l + r.val < 512) : (xSl n off inb).view.read Val f (ix2 r k) = f (ix2 (⟨l + r.val, hr⟩ : Fin 512) k) := by
  subst ho
  show f ((Rect.unit (s := S512x2048) ![l, 0] (⟨2, ![n, 2048]⟩ : Shape).size inb).emb (ix2 r k)) = _
  refine congrArg f (funext fun a => Fin.ext ?_)
  match a with
  | ⟨0, _⟩ => show l + 1 * r.val = l + r.val; omega
  | ⟨1, _⟩ => show 0 + 1 * k.val = k.val; omega

end Views

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s own rows of `x`, as fetched. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s own columns of `w`, as fetched. -/
def wstg (c : Dev nD) : (cc0_stg1_0 : Ref sig .tc).ty.Contents (Elt F) :=
  (win0_1.blk (0 : Fin 1)).view.read (Elt F) ((s₀ m ρ).mem ((c : Thread nD τ).loc main_arg1))

/-- The gathered array: chunk `o` is device `o`'s own rows. -/
def gath : (cc0_scratch0 : Ref sig .tc).ty.Contents (Elt F) := fun i : S4x512x2048.Idx =>
  xstg m ρ (i 0 : Fin 4) (ix2 (i 1 : Fin 512) (i 2 : Fin 2048))

/-- Rows of a device's own operand and the same rows of its chunk of the gathered array read the same. -/
theorem read_x_eq_gath (c : Dev nD) {n l : ℕ} {off : Fin 2 → ℕ} {inb} (ho : off = ![l, 0]) {off' : Fin 3 → ℕ} {inb'} {h}
    (ho' : off' = ![c.val, l, 0]) :
    (xSl n off inb).view.read (Elt F) (xstg m ρ c) = (gxSl n off' inb' h).view.read (Elt F) (gath m ρ) := by
  funext j
  obtain ⟨r, k, rfl⟩ : ∃ (r : Fin n) (k : Fin 2048), j = ix2 r k := ⟨_, _, eq_ix2 j⟩
  have hr : l + r.val < 512 := by
    have := inb 0; subst ho
    have : l + n ≤ 512 := this
    have := r.isLt; omega
  rw [xSl_read (Elt F) ho _ r k hr, gxSl_read (Elt F) ho' _ r k hr]
  rfl

/-! ## Ownership of row ranges -/

/-- Rows of the gather buffer of device `c`, at share `q` and contents `f`. -/
def gxPts (c : Dev nD) (q : PosShare TreeShare) (o : Dev nD) (l n : ℕ) (f : (cc0_scratch0 : Ref sig .tc).ty.Contents (Elt F)) : sProp 𝕄 :=
  ((c : Thread nD τ).loc cc0_scratch0) ↦[reg o l n]{q} f
/-- Rows of device `c`'s own operand, at share `q`. -/
def xPts (c : Dev nD) (q : PosShare TreeShare) (l n : ℕ) : sProp 𝕄 :=
  ((c : Thread nD τ).loc cc0_stg0_0) ↦[xrows l n]{q} xstg m ρ c

instance gxPts_storable (c : Dev nD) (q) (o : Dev nD) (l n : ℕ) (f) : BI.Storable (upEmb : UEmb _ 𝕄) (gxPts (F := F) c q o l n f) := by
  unfold gxPts; infer_instance
instance xPts_storable (c : Dev nD) (q) (l n : ℕ) : BI.Storable (upEmb : UEmb _ 𝕄) (xPts (F := F) m ρ c q l n) := by
  unfold xPts; infer_instance

/-- A row range splits at a row. -/
theorem gxPts_split (c : Dev nD) (q) (o : Dev nD) (l n k : ℕ) (f) :
    (gxPts c q o l (n + k) f : sProp 𝕄) ⊣⊢ iprop(gxPts c q o l n f ∗ gxPts c q o (l + n) k f) := by
  unfold gxPts; rw [reg_split]; exact pointsTo_union (reg_disjoint (.inr (.inl le_rfl)))

/-- A share of a row range splits in two halves. -/
theorem gxPts_halves (c : Dev nD) (q) (o : Dev nD) (l n : ℕ) (f) :
    (gxPts c q o l n f : sProp 𝕄) ⊣⊢ iprop(gxPts c q.left o l n f ∗ gxPts c q.right o l n f) := by
  unfold gxPts; exact pointsTo_share (PosShare.mem_left_op_right q)

theorem xPts_split (c : Dev nD) (q) (l n k : ℕ) : (xPts m ρ c q l (n + k) : sProp 𝕄) ⊣⊢ iprop(xPts m ρ c q l n ∗ xPts m ρ c q (l + n) k) := by
  unfold xPts; rw [xrows_split]; exact pointsTo_union (xrows_disjoint (.inl le_rfl))

theorem xPts_halves (c : Dev nD) (q) (l n : ℕ) : (xPts m ρ c q l n : sProp 𝕄) ⊣⊢ iprop(xPts m ρ c q.left l n ∗ xPts m ρ c q.right l n) := by
  unfold xPts; exact pointsTo_share (PosShare.mem_left_op_right q)

/-- The whole operand is its 512 rows. -/
theorem xPts_all (c : Dev nD) (q) : (xPts m ρ c q 0 512 : sProp 𝕄) = (((c : Thread nD τ).loc cc0_stg0_0) ↦{q} xstg m ρ c) := by
  unfold xPts; rw [xrows_all]

end Cert.AllGather

end
-- ==== Proof.Sched.lean ====
/-
# The protocol: cells, duties, payloads, and what each device owes

Each device has seventeen semaphore cells: its barrier, eight send cells and eight receive cells. Everything happens in one
round. A barrier cell has two duties of one unit, one paid by each neighbour, which hands over the rows of the neighbour's
gather buffer that the device will fill. A receive cell has one duty, paid by the transfer that lands there, which hands over
the landed rows. A send cell has one duty, paid by the transfer that leaves, which hands back the rows it read.
-/
module

public import proofs.«01_k».proof.Proof.Contents

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The cells -/

/-- A cell's kind: the barrier, the send cell of a slot (`false`) or its receive cell (`true`). -/
abbrev Kind : Type := Option (Bool × Fin 8)

/-- The runtime's barrier semaphore. -/
abbrev barS : Sem sig := (SemArray.scalar (sig.barrier 0 rfl) : Sems sig S_).sem

set_option backward.proofsInPublic true in
/-- The send semaphore of slot `s`. -/
def sendD (s : Fin 8) : DmaSem sig := ⟨3 + s.val, by have := s.isLt; show 3 + s.val < 19; omega⟩
set_option backward.proofsInPublic true in
/-- The receive semaphore of slot `s`. -/
def recvD (s : Fin 8) : DmaSem sig := ⟨11 + s.val, by have := s.isLt; show 11 + s.val < 19; omega⟩

/-- The kernel's own scoped semaphores. -/
def osem : Bool × Fin 8 → SemLoc sig := fun p => .dma (if p.1 then recvD p.2 else sendD p.2)
/-- All seventeen of the protocol's. -/
def csem : Kind → SemLoc sig
  | none => .reg barS
  | some p => osem p

/-- The cell of kind `k` on device `c`. -/
abbrev kcell (ck : Dev nD × Kind) : GSem nD τ sig := ((ck.1 : Thread nD τ), csem ck.2)

set_option backward.proofsInPublic true in
/-- The kind a semaphore is of, if it is one of the protocol's. -/
def kindOf : SemLoc sig → Option Kind
  | .reg s => if s = barS then some none else none
  | .dma s => if h : 3 ≤ s.val ∧ s.val < 11 then some (some (false, ⟨s.val - 3, by omega⟩))
      else if h : 11 ≤ s.val ∧ s.val < 19 then some (some (true, ⟨s.val - 11, by omega⟩)) else none

theorem kindOf_csem (k : Kind) : kindOf (csem k) = some k := by revert k; decide
theorem csem_injective : Function.Injective csem := fun k k' h => by
  have := congrArg kindOf h; rw [kindOf_csem, kindOf_csem] at this; exact Option.some.inj this

theorem kcell_injective : Function.Injective (kcell : Dev nD × Kind → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- A staging buffer's semaphore is none of the protocol's. -/
theorem kindOf_stage (q : DmaSem sig) (h : q.val < 3) : kindOf (.dma q) = none := by revert q; decide

/-! ## Amounts and payloads -/

/-- What slot `s`'s transfer credits a semaphore. -/
def N (s : Fin 8) : ℕ := RefSig.tileCredit ⟨2, ![len s, 2048]⟩ .f32

theorem N_pos (s : Fin 8) : 0 < N s := RefSig.tileCredit_pos _ _ (by revert s; decide)

/-- The share of the device's own operand that slot `s` reads at: one for the four going right, one for the four going left. -/
def xq (s : Fin 8) : PosShare TreeShare := if s.val < 4 then fullShare.right.left else fullShare.right.right

variable (m : (ℓ : Loc nD τ sig) → Buf (Elt F) ℓ) (ρ : Dev nD → PrngReg)

/-- The rows that slot `s` of device `c` fills, at any contents. -/
def landing (s : Fin 8) (c : Dev nD) : sProp 𝕄 := iprop(∃ f, gxPts (tgt s c) fullShare (org s c) (lo s) (len s) f)
/-- The rows device `c` received in slot `s`, holding the gathered array. -/
def recvPay (s : Fin 8) (c : Dev nD) : sProp 𝕄 := gxPts c fullShare (rorg s c) (lo s) (len s) (gath m ρ)
/-- The rows slot `s` of device `c` reads: of its gather buffer when it passes rows on, of its own operand otherwise. -/
def sendPay (s : Fin 8) (c : Dev nD) : sProp 𝕄 :=
  if s = 1 ∨ s = 5 then gxPts c fullShare.right (org s c) (lo s) (len s) (gath m ρ) else xPts m ρ c (xq s) (lo s) (len s)
/-- What the neighbour on side `b` hands device `c` at the barrier: the rows that side's four slots fill. -/
def barPay (c : Dev nD) (b : Bool) : sProp 𝕄 :=
  if b then iprop(landing 0 c ∗ landing 1 c ∗ landing 2 c ∗ landing 3 c) else iprop(landing 4 c ∗ landing 5 c ∗ landing 6 c ∗ landing 7 c)

/-- What the duty `b` of the cell of kind `k` on device `c` hands over. -/
def pay (c : Dev nD) (b : Bool) : Kind → sProp 𝕄
  | none => barPay c b
  | some (true, s) => recvPay m ρ s c
  | some (false, s) => sendPay m ρ s c

/-- How much each duty of a cell of kind `k` pays. -/
def amt : Kind → ℕ
  | none => 1
  | some (_, s) => N s

/-- The duties of a cell of kind `k`. -/
def dut : Kind → Finset Bool
  | none => Finset.univ
  | some _ => {false}

instance landing_storable (s : Fin 8) (c : Dev nD) : BI.Storable (upEmb : UEmb _ 𝕄) (landing (F := F) s c) := by
  unfold landing; infer_instance

instance pay_storable (c : Dev nD) (b : Bool) (k : Kind) : BI.Storable (upEmb : UEmb _ 𝕄) (pay m ρ c b k) := by
  rcases k with _ | ⟨_ | _, s⟩
  · show BI.Storable upEmb (barPay c b); unfold barPay; split <;> infer_instance
  · show BI.Storable upEmb (sendPay m ρ s c); unfold sendPay; split <;> infer_instance
  · show BI.Storable upEmb (recvPay m ρ s c); unfold recvPay; infer_instance

/-- The schedule: one round. -/
def Rd : Rounds.Schedule (GSem nD τ sig) Bool 𝕄 where
  duties g r := if r = 0 ∧ g.1.2 = .tc then (kindOf g.2).elim ∅ dut else ∅
  unitless _ := False
  amount g _ _ := (kindOf g.2).elim 1 amt
  payload g _ b := (kindOf g.2).elim iprop(emp) (pay m ρ g.1.1 b)
  amount_pos g _ _ _ := by
    rcases kindOf g.2 with _ | _ | ⟨_, s⟩
    · exact Nat.one_pos
    · exact Nat.one_pos
    · exact N_pos s

instance Rd_payload_storable (g : GSem nD τ sig) (r : ℕ) (b : Bool) : BI.Storable (upEmb : UEmb _ 𝕄) ((Rd m ρ).payload g r b) := by
  show BI.Storable upEmb ((kindOf g.2).elim iprop(emp) (pay m ρ g.1.1 b))
  cases kindOf g.2 with
  | none => show BI.Storable upEmb (iprop(emp) : sProp 𝕄); infer_instance
  | some k => exact pay_storable m ρ g.1.1 b k

section Sched
variable (c : Dev nD) (k : Kind)

theorem duties_eq : (Rd m ρ).duties (kcell (c, k)) 0 = dut k := by
  show (if (0 : ℕ) = 0 ∧ (c : Thread nD τ).2 = .tc then (kindOf (csem k)).elim ∅ dut else ∅) = _
  rw [if_pos ⟨rfl, rfl⟩, kindOf_csem]; rfl
theorem duties_later (g : GSem nD τ sig) : ∀ r, 1 ≤ r → (Rd m ρ).duties g r = ∅ :=
  fun r hr => if_neg fun h => by omega
theorem amount_eq (b : Bool) : (Rd m ρ).amount (kcell (c, k)) 0 b = amt k := by
  show (kindOf (csem k)).elim 1 amt = _; rw [kindOf_csem]; rfl
theorem payload_eq (b : Bool) : (Rd m ρ).payload (kcell (c, k)) 0 b = pay m ρ c b k := by
  show (kindOf (csem k)).elim _ _ = _; rw [kindOf_csem]; rfl

theorem expect_bar : (Rd m ρ).expect (kcell (c, none)) 0 = 2 := by
  unfold Schedule.expect Schedule.amountOf
  rw [duties_eq, Finset.sum_congr rfl fun d _ => amount_eq m ρ c none d]; rfl
theorem expect_dma (p : Bool × Fin 8) : (Rd m ρ).expect (kcell (c, some p)) 0 = N p.2 := by
  unfold Schedule.expect Schedule.amountOf
  rw [duties_eq, show dut (some p) = {false} from rfl, Finset.sum_singleton, amount_eq]; rfl

/-- What a whole barrier round hands over: both neighbours' rows. -/
theorem rest_bar : bigSep ((Rd m ρ).duties (kcell (c, none)) 0 \ ∅) (fun b => (Rd m ρ).payload (kcell (c, none)) 0 b)
    = iprop(barPay c false ∗ barPay c true) := by
  rw [Finset.sdiff_empty, duties_eq, show dut none = Finset.univ from rfl,
    bigSep_univ_eq_bigSepL [false, true] (by decide) (by decide), bigSepL_cons_cons, bigSepL_singleton, payload_eq, payload_eq]
  rfl
/-- What a transfer cell's round hands over. -/
theorem rest_dma (p : Bool × Fin 8) : bigSep ((Rd m ρ).duties (kcell (c, some p)) 0 \ ∅) (fun b => (Rd m ρ).payload (kcell (c, some p)) 0 b)
    = pay m ρ c false (some p) := by
  rw [Finset.sdiff_empty, duties_eq, show dut (some p) = {false} from rfl, bigSep_singleton, payload_eq]

end Sched

/-! ## What each device owes at launch, and the levels -/

/-- The sum of a list of amounts owed to cells, the first on top. -/
def tal : List ((Dev nD × Kind) × ℕ) → CellTallies nD τ sig Unit
  | [] => 0
  | p :: l => tal l + tallyAt (kcell p.1) () p.2

/-- What slot `s`'s receive cell on its target is owed. -/
abbrev owedRecv (c : Dev nD) (s : Fin 8) : (Dev nD × Kind) × ℕ := ((tgt s c, some (true, s)), N s)

/-- What device `c` owes at launch, in the order it pays: a unit to each neighbour's barrier, then each transfer's credit. -/
def owedL (c : Dev nD) : List ((Dev nD × Kind) × ℕ) :=
  ((left c, none), 1) :: ((right c, none), 1) :: [0, 4, 1, 2, 3, 5, 6, 7].map (owedRecv c)

def O₀ (c : Dev nD) : CellTallies nD τ sig Unit := tal (owedL c)

/-- The level of a kind: send cells below the barrier, the barrier below the first transfer on each side, those below the rest. -/
def lvK : Kind → ℕ
  | none => 1
  | some (false, _) => 0
  | some (true, s) => if s = 0 ∨ s = 4 then 2 else 3

def L (g : GSem nD τ sig) : Finset Unit := if g.1.2 = .tc then {()} else ∅
def lv (g : GSem nD τ sig) (_ : Unit) : ℕ := (kindOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl

theorem tal_pos {l : List ((Dev nD × Kind) × ℕ)} {g : GSem nD τ sig} {u : Unit} (h : 0 < tal l g u) : ∃ p ∈ l, g = kcell p.1 := by
  induction l with
  | nil => exact absurd h (Nat.lt_irrefl 0)
  | cons p l ih =>
    have h' : 0 < tal l g u + tallyAt (kcell p.1) () p.2 g u := h
    by_cases hg : g = kcell p.1
    · exact ⟨p, List.mem_cons_self, hg⟩
    · rw [tallyAt_apply, if_neg (fun h => hg h.1), Nat.add_zero] at h'
      obtain ⟨q, hq, e⟩ := ih h'
      exact ⟨q, List.mem_cons_of_mem _ hq, e⟩

/-- A device may wait on a cell whose level is below that of every cell it still owes. -/
theorem mayWait_of (c : Dev nD) (sm : SemLoc sig) (l : List ((Dev nD × Kind) × ℕ))
    (h : ∀ p ∈ l, (kindOf sm).elim 0 lvK < lvK p.1.2) : (levAts L lv : sProp 𝕄) ⊢ MayWait (c : Thread nD τ) sm () (tal l) :=
  MayOwe.of_cut (L := L) (lev := lv) ((kindOf sm).elim 0 lvK)
    (fun p hp => by rw [Finset.mem_singleton.mp hp, L_tc]; exact Finset.mem_singleton_self _)
    (fun g u hg => by obtain ⟨p, -, rfl⟩ := tal_pos hg; exact Finset.mem_singleton_self _)
    (fun p hp => by rw [Finset.mem_singleton.mp hp]; exact le_rfl)
    (fun g u hg => by
      obtain ⟨p, hp, rfl⟩ := tal_pos hg
      show (kindOf sm).elim 0 lvK < (kindOf (csem p.1.2)).elim 0 lvK
      rw [kindOf_csem]; exact h p hp)

end Cert.AllGather

end
-- ==== Proof.Steps.lean ====
/-
# One step of the protocol at a time

The rules the kernel's body is run by: a signal to a neighbour's barrier, the barrier wait, a remote copy in any slot, and the
wait on any transfer cell. Each takes what the step uses from what the device holds and gives back what it holds after.
-/
module

public import proofs.«01_k».proof.Proof.Sched

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## What a device holds -/

/-- Every cell's invariant, under the names `K`, and that every cell's round 0 is reached. -/
def records (K : Dev nD × Kind → ℕ) : sProp 𝕄 :=
  iprop((bigSep Finset.univ fun ck : Dev nD × Kind => cellInv ER (Rd m ρ) (K ck) (kcell ck))
    ∗ bigSep Finset.univ fun ck : Dev nD × Kind => reached ER (kcell ck) 0)

instance records_persistent (K : Dev nD × Kind → ℕ) : BI.Persistent (records m ρ K) := by unfold records; infer_instance

theorem inv_at (K : Dev nD × Kind → ℕ) (ck : Dev nD × Kind) : records m ρ K ⊢ cellInv ER (Rd m ρ) (K ck) (kcell ck) := by
  unfold records; exact sep_elim_left.trans (bigSep_elim (Finset.mem_univ ck))
theorem reached_at (K : Dev nD × Kind → ℕ) (ck : Dev nD × Kind) : records m ρ K ⊢ reached ER (kcell ck) 0 := by
  unfold records; exact sep_elim_right.trans (bigSep_elim (Finset.mem_univ ck))

/-- Device `c` owes the list `l`. -/
def owing (c : Dev nD) (l : List ((Dev nD × Kind) × ℕ)) : sProp 𝕄 := iprop(∃ W, owes (c : Thread nD τ) (tal l) W)

/-- Device `c` is at the start of the round of its cell of kind `k`. -/
abbrev pos (c : Dev nD) (k : Kind) : sProp 𝕄 := atPos ER (kcell (c, k)) 0 ∅ 0
/-- Device `c`'s cell of kind `k` is closed, its counter at zero. -/
abbrev done (c : Dev nD) (k : Kind) : sProp 𝕄 := semVal (kcell (c, k)) 0
/-- The two duties slot `s` of device `c` pays: its own send cell's and its target's receive cell's. -/
def sendKit (s : Fin 8) (c : Dev nD) : sProp 𝕄 :=
  iprop(dutyTok ER (kcell (c, some (false, s))) 0 false ∗ dutyTok ER (kcell (tgt s c, some (true, s))) 0 false)
/-- The right to wait for slot `s`'s credit on the send or receive cell. -/
abbrev due (c : Dev nD) (p : Bool × Fin 8) : sProp 𝕄 := cred (tallyAt (kcell (c, some p)) () (N p.2))

section Rules

variable (K : Dev nD × Kind → ℕ) (c : Dev nD)

/-- A signal of one unit to device `n`'s barrier, paying its duty `b` and handing over what that duty promises. -/
theorem wp_bar_signal {α : Type} {Q : α → sProp 𝕄} {k : PUnit → Prog (TpuEff nD τ sig (Elt F) Λ₀ .tc) α}
    (n : Dev nD) (b : Bool) {a : Int} (ha : a = 1) (l : List ((Dev nD × Kind) × ℕ)) :
    iprop(records m ρ K ∗ owing c (((n, none), 1) :: l) ∗ dutyTok ER (kcell (n, none)) 0 b ∗ barPay n b)
      ⊢ iprop((owing c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS a) k) Q) := by
  subst ha
  unfold owing
  iintro ⟨#HR, ⟨%W, HO⟩, Ht, Hp⟩ Hk
  iapply (Rounds.wp_signal 𝒱₀ ER (Rd m ρ) (c : Thread nD τ) none (dst := (n : Thread nD τ)) (κ := K (n, none))
      (d := b) (r := 0) (by rw [show (((n : Dev nD) : Thread nD τ), SemLoc.reg barS) = kcell (n, none) from rfl, duties_eq]; exact Finset.mem_univ _)
      (amount_eq m ρ n none b) () (tal l) rfl) $$ [HO Ht Hp]
  · isplitr; · iapply (inv_at m ρ K (n, none)); iexact HR
    isplitl [HO]; · iexact HO
    isplitl [Ht]; · iexact Ht
    isplitl [Hp]
    · iapply (Entails.of_eq (show barPay n b = (Rd m ρ).payload ((n : Thread nD τ), SemLoc.reg barS) 0 b from (payload_eq m ρ n none b).symm)); iexact Hp
    iapply (reached_at m ρ K (n, none)); iexact HR
  iintro HO
  iapply Hk
  iexists W; iexact HO

/-- The wait for both units on its own barrier: both neighbours' rows, and the barrier cell closed. -/
theorem wp_bar_wait {α : Type} {Q : α → sProp 𝕄} {k : PUnit → Prog (TpuEff nD τ sig (Elt F) Λ₀ .tc) α}
    {a : Int} (ha : a = 2) (l : List ((Dev nD × Kind) × ℕ)) (hl : ∀ p ∈ l, 1 < lvK p.1.2) :
    iprop(records m ρ K ∗ levAts L lv ∗ owing c l ∗ pos c none ∗ cred (tallyAt (kcell (c, none)) () 2))
      ⊢ iprop(((owing c l ∗ done c none ∗ barPay c false ∗ barPay c true)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS a) k) Q) := by
  subst ha
  unfold owing
  iintro ⟨#HR, #Hlev, ⟨%W, HO⟩, Hat, Hc⟩ Hk
  iapply (Rounds.wp_wait_rest_token 𝒱₀ ER (Rd m ρ) (c : Thread nD τ) none (κ := K (c, none))
      (wpE_semWait_eq 𝒱₀ (c : Thread nD τ) none Set.univ) (Set.mem_univ _) () (O := tal l) (W := W) (R := 0) (m := 0) (T := ∅)
      (show 0 + 2 = (Rd m ρ).expect (kcell (c, none)) 0 by rw [expect_bar])) $$ [Hc HO Hat]
  · isplitr; · iapply (inv_at m ρ K (c, none)); iexact HR
    isplitl [Hc]; · iexact Hc
    isplitl [HO]; · iexact HO
    isplitr; · iapply (mayWait_of (F := F) c (.reg barS) l hl); iexact Hlev
    iexact Hat
  iintro ⟨HO, Hat, -, Hpay⟩
  ihave Hp := (Entails.of_eq (show (bigSep ((Rd m ρ).duties ((c : Thread nD τ), SemLoc.reg barS) 0 \ ∅) fun b => (Rd m ρ).payload ((c : Thread nD τ), SemLoc.reg barS) 0 b)
    = iprop(barPay c false ∗ barPay c true) from rest_bar m ρ c)) $$ Hpay
  imod (Rounds.cell_close ER (Rd m ρ) (Set.mem_univ (K (c, none))) (fun h => h) (R := 0 + 1) (duties_later m ρ (kcell (c, none)))) $$ [Hat] with Hz
  · isplitr; · iapply (inv_at m ρ K (c, none)); iexact HR
    iexact Hat
  iapply Hk
  isplitl [HO]; · iexists _; iexact HO
  isplitl [Hz]; · iexact Hz
  iexact Hp

/-- The wait on a transfer cell: what the transfer's duty hands over, and the cell closed. -/
theorem wp_dma_wait {α : Type} {Q : α → sProp 𝕄} {k : PUnit → Prog (TpuEff nD τ sig (Elt F) Λ₀ .tc) α}
    (p : Bool × Fin 8) {sm : DmaSem sig} (hsm : SemLoc.dma sm = csem (some p)) (l : List ((Dev nD × Kind) × ℕ))
    (hl : ∀ q ∈ l, lvK (some p) < lvK q.1.2)
    {sp sp' : Space} {s s' : Shape} {e e' : EltTy} {src : Memref sig .tc sp' s' e'} {dst : Memref sig .tc sp s e}
    {hsrc : src.view.WordExact} {hdst : dst.view.WordExact} (hN : dst.view.dmaCredit = N p.2) :
    iprop(records m ρ K ∗ levAts L lv ∗ owing c l ∗ pos c (some p) ∗ due c p)
      ⊢ iprop(((owing c l ∗ done c (some p) ∗ pay m ρ c false (some p))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  unfold owing
  iintro ⟨#HR, #Hlev, ⟨%W, HO⟩, Hat, Hc⟩ Hk
  iapply (Rounds.wp_wait_rest_token 𝒱₀ ER (Rd m ρ) (c : Thread nD τ) none (κ := K (c, some p)) (sm := csem (some p)) (k' := N p.2)
      (fun K' => by rw [wpE_waitDma2_eq, hsm, hN]) (Set.mem_univ _) () (O := tal l) (W := W) (R := 0) (m := 0) (T := ∅)
      (show 0 + N p.2 = (Rd m ρ).expect (kcell (c, some p)) 0 by rw [expect_dma, Nat.zero_add])) $$ [Hc HO Hat]
  · isplitr; · iapply (inv_at m ρ K (c, some p)); iexact HR
    isplitl [Hc]; · iexact Hc
    isplitl [HO]; · iexact HO
    isplitr
    · iapply (mayWait_of (F := F) c (csem (some p)) l (by rw [kindOf_csem]; exact hl)); iexact Hlev
    iexact Hat
  iintro ⟨HO, Hat, -, Hpay⟩
  ihave Hp := (Entails.of_eq (rest_dma m ρ c p)) $$ Hpay
  imod (Rounds.cell_close ER (Rd m ρ) (Set.mem_univ (K (c, some p))) (fun h => h) (R := 0 + 1) (duties_later m ρ (kcell (c, some p)))) $$ [Hat] with Hz
  · isplitr; · iapply (inv_at m ρ K (c, some p)); iexact HR
    iexact Hat
  iapply Hk
  isplitl [HO]; · iexists _; iexact HO
  isplitl [Hz]; · iexact Hz
  iexact Hp

/-- The wait for slot `s` to arrive: the rows it carries. -/
theorem wp_wait_recv {α : Type} {Q : α → sProp 𝕄} {k : PUnit → Prog (TpuEff nD τ sig (Elt F) Λ₀ .tc) α}
    (s : Fin 8) {sm : DmaSem sig} (hsm : SemLoc.dma sm = csem (some (true, s))) (l : List ((Dev nD × Kind) × ℕ))
    (hl : ∀ q ∈ l, lvK (some (true, s)) < lvK q.1.2)
    {sp sp' : Space} {s₁ s₂ : Shape} {e e' : EltTy} {src : Memref sig .tc sp' s₂ e'} {dst : Memref sig .tc sp s₁ e}
    {hsrc : src.view.WordExact} {hdst : dst.view.WordExact} (hN : dst.view.dmaCredit = N s) :
    iprop(records m ρ K ∗ levAts L lv ∗ owing c l ∗ pos c (some (true, s)) ∗ due c (true, s))
      ⊢ iprop(((owing c l ∗ done c (some (true, s)) ∗ recvPay m ρ s c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) :=
  wp_dma_wait m ρ K c (true, s) hsm l hl hN

/-- The wait for slot `s`'s own copy to be read out: the rows it was sent from. -/
theorem wp_wait_send {α : Type} {Q : α → sProp 𝕄} {k : PUnit → Prog (TpuEff nD τ sig (Elt F) Λ₀ .tc) α}
    (s : Fin 8) {sm : DmaSem sig} (hsm : SemLoc.dma sm = csem (some (false, s))) (l : List ((Dev nD × Kind) × ℕ))
    (hl : ∀ q ∈ l, lvK (some (false, s)) < lvK q.1.2)
    {sp sp' : Space} {s₁ s₂ : Shape} {e e' : EltTy} {src : Memref sig .tc sp' s₂ e'} {dst : Memref sig .tc sp s₁ e}
    {hsrc : src.view.WordExact} {hdst : dst.view.WordExact} (hN : dst.view.dmaCredit = N s) :
    iprop(records m ρ K ∗ levAts L lv ∗ owing c l ∗ pos c (some (false, s)) ∗ due c (false, s))
      ⊢ iprop(((owing c l ∗ done c (some (false, s)) ∗ sendPay m ρ s c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) :=
  wp_dma_wait m ρ K c (false, s) hsm l hl hN

/-- A remote copy in slot `s`, from a source that reads the rows of the gathered array the slot carries. -/
theorem wp_send {α : Type} {Q : α → sProp 𝕄} {k : PUnit → Prog (TpuEff nD τ sig (Elt F) Λ₀ .tc) α}
    (s : Fin 8) (nd : Dev nD) (hn : nd = tgt s c) {n : ℕ} (hlen : len s = n) {sS sR : DmaSem sig}
    (hS : SemLoc.dma sS = csem (some (false, s))) (hR : SemLoc.dma sR = csem (some (true, s)))
    {off : Fin 3 → ℕ} {inb : ∀ a, off a + (⟨3, ![1, n, 2048]⟩ : Shape).size a ≤ S4x512x2048.size a}
    {h : (⟨3, ![1, n, 2048]⟩ : Shape).Squeezes ⟨2, ![n, 2048]⟩} (ho : off = ![(org s c).val, lo s, 0])
    {src : Memref sig .tc .vmem ⟨2, ![n, 2048]⟩ .f32} {q : PosShare TreeShare} {fs : Buf (Elt F) (src.view.loc (c : Thread nD τ))}
    (hsrc : sendPay m ρ s c = (src.view.loc (c : Thread nD τ) ↦[src.view.set]{q} fs))
    (hread : src.view.read (Elt F) fs = (gxSl n off inb h).view.read (Elt F) (gath m ρ))
    (l : List ((Dev nD × Kind) × ℕ))
    {hsc : (gxSl n off inb h : Memref sig (Dev.tc nd : Thread nD τ).2.kind .vmem _ .f32).view.ref.isScScratch = false}
    {hws : src.view.WordExact} {hwd : (gxSl n off inb h).view.WordExact}
    {hty : DmaTarget.Typed .vmem (.dma sR) (.remote (Dev.tc nd : Thread nD τ) (gxSl n off inb h : Memref sig .tc .vmem _ .f32) (.dma sS) hsc)} :
    iprop(records m ρ K ∗ owing c (owedRecv c s :: l) ∗ sendKit s c ∗ sendPay m ρ s c ∗ landing s c)
      ⊢ iprop(((owing c l ∗ due c (false, s))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc nd : Thread nD τ) (gxSl n off inb h) (.dma sS) hsc) (.dma sR) hws hwd hty) k) Q) := by
  subst hn hlen
  have hset : (gxSl (len s) off inb h).view.set = reg (org s c) (lo s) (len s) := gxSl_set ho
  have hgx : ∀ f, (gxPts (tgt s c) fullShare (org s c) (lo s) (len s) f : sProp 𝕄)
      = ((gxSl (len s) off inb h).view.loc (tgt s c : Thread nD τ) ↦[(gxSl (len s) off inb h).view.set]{fullShare} f) := fun f => by
    unfold gxPts; rw [hset]
  unfold owing sendKit landing
  iintro ⟨#HR, ⟨%W, HO⟩, ⟨HtS, HtR⟩, Hs, ⟨%fd, Hd⟩⟩ Hk
  ihave Hs := (Entails.of_eq hsrc) $$ Hs
  ihave Hd := (Entails.of_eq (hgx fd)) $$ Hd
  iapply (Rounds.wp_send_pointsTo 𝒱₀ ER (Rd m ρ) (c : Thread nD τ) none (κ₁ := K (c, some (false, s))) (κ₂ := K (tgt s c, some (true, s)))
    (c' := (tgt s c : Thread nD τ)) (sS := .dma sS) (sem := .dma sR)
    (r₁ := 0) (r₂ := 0) (d₁ := false) (d₂ := false) (fd := fd) (q := q) (fs := fs)
    (by rw [hS]; show false ∈ (Rd m ρ).duties (kcell (c, some (false, s))) 0; rw [duties_eq]; exact Finset.mem_singleton_self _)
    (by rw [hR]; show false ∈ (Rd m ρ).duties (kcell (tgt s c, some (true, s))) 0; rw [duties_eq]; exact Finset.mem_singleton_self _)
    () () (N s) rfl (by rw [hS]; exact amount_eq m ρ c (some (false, s)) false) (by rw [hR]; exact amount_eq m ρ (tgt s c) (some (true, s)) false)
    (O₀ := tal (owedRecv c s :: l)) (tal l) (by rw [hR]; rfl) (W := W)
    (by rw [hS]; exact (Entails.of_eq hsrc.symm).trans (Entails.of_eq (payload_eq m ρ c (some (false, s)) false).symm))
    (by
      rw [hR]
      refine Entails.trans (Entails.of_eq ?_) (Entails.of_eq (payload_eq m ρ (tgt s c) (some (true, s)) false).symm)
      show _ = recvPay m ρ s (tgt s c)
      unfold recvPay
      rw [rorg_tgt, hgx, hread]
      refine pointsTo_congr fun i hi => ?_
      rw [View.write_read_eq_piecewise]
      exact Finset.piecewise_eq_of_mem _ _ _ hi)) $$ [Hs Hd HO HtS HtR]
  · rw [hS, hR]
    isplitr; · iapply (inv_at m ρ K (c, some (false, s))); iexact HR
    isplitr; · iapply (inv_at m ρ K (tgt s c, some (true, s))); iexact HR
    isplitl [Hs]; · iexact Hs
    isplitl [Hd]; · iexact Hd
    isplitl [HO]; · iexact HO
    isplitl [HtS]; · iexact HtS
    isplitr; · iapply (reached_at m ρ K (c, some (false, s))); iexact HR
    isplitl [HtR]; · iexact HtR
    iapply (reached_at m ρ K (tgt s c, some (true, s))); iexact HR
  rw [hS]
  iintro ⟨Hc, HO⟩
  iapply Hk
  isplitl [HO]; · iexists W; iexact HO
  iexact Hc

/-- A remote copy of rows of the device's own operand. -/
theorem wp_send_x {α : Type} {Q : α → sProp 𝕄} {k : PUnit → Prog (TpuEff nD τ sig (Elt F) Λ₀ .tc) α}
    (s : Fin 8) (hs : ¬ (s = 1 ∨ s = 5)) (nd : Dev nD) (hn : nd = tgt s c) {n : ℕ} (hlen : len s = n) {sS sR : DmaSem sig}
    (hS : SemLoc.dma sS = csem (some (false, s))) (hR : SemLoc.dma sR = csem (some (true, s)))
    {off : Fin 3 → ℕ} {inb : ∀ a, off a + (⟨3, ![1, n, 2048]⟩ : Shape).size a ≤ S4x512x2048.size a}
    {h : (⟨3, ![1, n, 2048]⟩ : Shape).Squeezes ⟨2, ![n, 2048]⟩} (ho : off = ![c.val, lo s, 0])
    {off' : Fin 2 → ℕ} {inb' : ∀ a, off' a + (⟨2, ![n, 2048]⟩ : Shape).size a ≤ S512x2048.size a} (ho' : off' = ![lo s, 0])
    (l : List ((Dev nD × Kind) × ℕ))
    {hsc : (gxSl n off inb h : Memref sig (Dev.tc nd : Thread nD τ).2.kind .vmem _ .f32).view.ref.isScScratch = false}
    {hws : (xSl n off' inb').view.WordExact} {hwd : (gxSl n off inb h).view.WordExact}
    {hty : DmaTarget.Typed .vmem (.dma sR) (.remote (Dev.tc nd : Thread nD τ) (gxSl n off inb h : Memref sig .tc .vmem _ .f32) (.dma sS) hsc)} :
    iprop(records m ρ K ∗ owing c (owedRecv c s :: l) ∗ sendKit s c ∗ sendPay m ρ s c ∗ landing s c)
      ⊢ iprop(((owing c l ∗ due c (false, s))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (xSl n off' inb') (.remote (Dev.tc nd : Thread nD τ) (gxSl n off inb h) (.dma sS) hsc) (.dma sR) hws hwd hty) k) Q) :=
  have horg : org s c = c := by unfold org; rw [if_neg (fun e => hs (.inl e)), if_neg (fun e => hs (.inr e))]
  wp_send m ρ K c s nd hn hlen hS hR (by rw [horg]; exact ho) (src := xSl n off' inb') (q := xq s) (fs := xstg m ρ c)
    (by subst hlen; rw [xSl_set ho']; exact if_neg hs) (read_x_eq_gath m ρ c ho' ho) l

/-- A remote copy that passes on received rows. -/
theorem wp_send_fwd {α : Type} {Q : α → sProp 𝕄} {k : PUnit → Prog (TpuEff nD τ sig (Elt F) Λ₀ .tc) α}
    (s : Fin 8) (hs : s = 1 ∨ s = 5) (nd : Dev nD) (hn : nd = tgt s c) {n : ℕ} (hlen : len s = n) {sS sR : DmaSem sig}
    (hS : SemLoc.dma sS = csem (some (false, s))) (hR : SemLoc.dma sR = csem (some (true, s)))
    {off : Fin 3 → ℕ} {inb : ∀ a, off a + (⟨3, ![1, n, 2048]⟩ : Shape).size a ≤ S4x512x2048.size a}
    {h : (⟨3, ![1, n, 2048]⟩ : Shape).Squeezes ⟨2, ![n, 2048]⟩} (ho : off = ![(org s c).val, lo s, 0])
    (l : List ((Dev nD × Kind) × ℕ))
    {hsc : (gxSl n off inb h : Memref sig (Dev.tc nd : Thread nD τ).2.kind .vmem _ .f32).view.ref.isScScratch = false}
    {hws hwd : (gxSl n off inb h).view.WordExact}
    {hty : DmaTarget.Typed .vmem (.dma sR) (.remote (Dev.tc nd : Thread nD τ) (gxSl n off inb h : Memref sig .tc .vmem _ .f32) (.dma sS) hsc)} :
    iprop(records m ρ K ∗ owing c (owedRecv c s :: l) ∗ sendKit s c ∗ sendPay m ρ s c ∗ landing s c)
      ⊢ iprop(((owing c l ∗ due c (false, s))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (gxSl n off inb h) (.remote (Dev.tc nd : Thread nD τ) (gxSl n off inb h) (.dma sS) hsc) (.dma sR) hws hwd hty) k) Q) :=
  wp_send m ρ K c s nd hn hlen hS hR ho (src := gxSl n off inb h) (q := fullShare.right) (fs := gath m ρ)
    (by subst hlen; rw [gxSl_set ho]; exact if_pos hs) rfl l

/-- A load of rows the device holds of its gather buffer. -/
theorem wp_load_gx {α : Type} {Q : α → sProp 𝕄} {q : PosShare TreeShare} {o : Dev nD} {l n : ℕ} {off : Fin 3 → ℕ}
    {inb : ∀ a, off a + (⟨3, ![1, n, 2048]⟩ : Shape).size a ≤ S4x512x2048.size a} (ho : off = ![o.val, l, 0])
    {f : (cc0_scratch0 : Ref sig .tc).ty.Contents (Elt F)}
    {hl : gxM.view.LoadsAt (Rect.unit (s := S4x512x2048) off (⟨3, ![1, n, 2048]⟩ : Shape).size inb).toLoadRect}
    {k : ((Rect.unit (s := S4x512x2048) off (⟨3, ![1, n, 2048]⟩ : Shape).size inb).toLoadRect.shape.Idx → Elt F .f32)
      → Prog (TpuEff nD τ sig (Elt F) Λ₀ .tc) α} :
    gxPts c q o l n f
      ⊢ iprop((gxPts c q o l n f
          -∗ wp frame (wpE (defs₀ (F := F)) 𝒱₀ (c : Thread nD τ) none) Set.univ
              (k (gxM.view.readAt (Elt F) (Rect.unit (s := S4x512x2048) off (⟨3, ![1, n, 2048]⟩ : Shape).size inb).toLoadRect f)) Q)
        -∗ wp frame (wpE (defs₀ (F := F)) 𝒱₀ (c : Thread nD τ) none) Set.univ
            (.op (.load gxM (Rect.unit (s := S4x512x2048) off (⟨3, ![1, n, 2048]⟩ : Shape).size inb).toLoadRect hl) k) Q) := by
  unfold gxPts
  refine wp_load 𝒱₀ (c : Thread nD τ) none Set.univ (m := gxM) ?_
  have h : (gxM.access (Rect.unit (s := S4x512x2048) off (⟨3, ![1, n, 2048]⟩ : Shape).size inb)).set ⊆ reg o l n := by
    show ((View.whole cc0_scratch0).slice _).set ⊆ _
    rw [View.set_slice_whole, rect_set inb ho]
  rwa [View.set_slice] at h

end Rules

end Cert.AllGather

end
-- ==== Proof.Block.lean ====
/-
# What one block computes

The eight stores into a device's output: each a rectangle of rows and the value stored there, taken from the rows of the gathered
operand the device holds and from its own weight columns.
-/
module

public import proofs.«01_k».proof.Proof.Contents

@[expose] public section

noncomputable section

namespace Cert.AllGather

open Cert.KernelIdeal Cert.KernelIdeal.Gen
open Idealize.ShloMosaic

variable {F : FTy → Type} [FloatOps F]

variable (m : (ℓ : Loc nD τ sig) → Buf (Elt F) ℓ) (ρ : Dev nD → PrngReg) (c : Dev nD)

/-- The device's own operand, as loaded. -/
abbrev xv : FVec F S512x2048 .f32 :=
  xM.view.readAt (Elt F) (Rect.unit (s := S512x2048) ![0, 0] S512x2048.size inb_S512x2048_S512x2048_0_0).toLoadRect (xstg m ρ c)
/-- The device's weight columns, as loaded. -/
abbrev wv : FVec F S2048x512 .f32 :=
  wM.view.readAt (Elt F) (Rect.unit (s := S2048x512) ![0, 0] S2048x512.size inb_S2048x512_S2048x512_0_0).toLoadRect (wstg m ρ c)
/-- A block of `n` rows of the gathered operand, as loaded. -/
abbrev gv (n : ℕ) (off : Fin 3 → ℕ) (inb : ∀ a, off a + (⟨3, ![1, n, 2048]⟩ : Shape).size a ≤ S4x512x2048.size a) :
    FVec F ⟨3, ![1, n, 2048]⟩ .f32 :=
  gxM.view.readAt (Elt F) (Rect.unit (s := S4x512x2048) off (⟨3, ![1, n, 2048]⟩ : Shape).size inb).toLoadRect (gath m ρ)

/-- The constant one the across block is finished with. -/
abbrev one32 : F .f32 := Scalar.ofBits .f32 0x3F800000#32

/-- The device's own chunk. -/
def ownPc : View.Piece (Elt F) S2048x512 .f32 :=
  ⟨Rect.unit (s := S2048x512) (k0_off3 c) S512x512.size (k0_off3_inb c), k0_pay3 (k0_pay1 (xv m ρ c)) (k0_pay2 (wv m ρ c))⟩
/-- The left neighbour's first 272 rows. -/
def leftPc : View.Piece (Elt F) S2048x512 .f32 :=
  ⟨Rect.unit (s := S2048x512) (k0_off13 c) S272x512.size (k0_off13_inb c), k0_pay5 (k0_pay4 (gv m ρ 272 (k0_off12 c) (k0_off12_inb c)) (wv m ρ c))⟩
/-- The right neighbour's last 272 rows. -/
def rightPc : View.Piece (Elt F) S2048x512 .f32 :=
  ⟨Rect.unit (s := S2048x512) (k0_off15 c) S272x512.size (k0_off15_inb c), k0_pay6 (gv m ρ 272 (k0_off14 c) (k0_off14_inb c)) (wv m ρ c)⟩
/-- The chunk of the device across the ring. -/
def acrossPc : View.Piece (Elt F) S2048x512 .f32 :=
  ⟨Rect.unit (s := S2048x512) (k0_off18 c) S512x512.size (k0_off18_inb c),
    k0_pay10 (k0_pay8 (gv m ρ 512 (k0_off17 c) (k0_off17_inb c)) (wv m ρ c)) (k0_pay9 (gv m ρ 512 (k0_off17 c) (k0_off17_inb c)) (wv m ρ c)) one32⟩
/-- The left neighbour's next 208 rows. -/
def leftPc2 : View.Piece (Elt F) S2048x512 .f32 :=
  ⟨Rect.unit (s := S2048x512) (k0_off21 c) S208x512.size (k0_off21_inb c), k0_pay11 (gv m ρ 208 (k0_off20 c) (k0_off20_inb c)) (wv m ρ c)⟩
/-- The right neighbour's middle 208 rows. -/
def rightPc2 : View.Piece (Elt F) S2048x512 .f32 :=
  ⟨Rect.unit (s := S2048x512) (k0_off24 c) S208x512.size (k0_off24_inb c), k0_pay12 (gv m ρ 208 (k0_off23 c) (k0_off23_inb c)) (wv m ρ c)⟩
/-- The left neighbour's last 32 rows. -/
def leftPc3 : View.Piece (Elt F) S2048x512 .f32 :=
  ⟨Rect.unit (s := S2048x512) (k0_off27 c) S32x512.size (k0_off27_inb c), k0_pay13 (gv m ρ 32 (k0_off26 c) (k0_off26_inb c)) (wv m ρ c)⟩
/-- The right neighbour's first 32 rows. -/
def rightPc3 : View.Piece (Elt F) S2048x512 .f32 :=
  ⟨Rect.unit (s := S2048x512) (k0_off30 c) S32x512.size (k0_off30_inb c), k0_pay14 (gv m ρ 32 (k0_off29 c) (k0_off29_inb c)) (wv m ρ c)⟩

/-- All eight stores, the latest first. -/
def pieces : List (View.Piece (Elt F) S2048x512 .f32) :=
  [rightPc3 m ρ c, leftPc3 m ρ c, rightPc2 m ρ c, leftPc2 m ρ c, acrossPc m ρ c, rightPc m ρ c, leftPc m ρ c, ownPc m ρ c]

/-- What a device's output holds once the eight stores are done. -/
@[irreducible] def outAt : (cc0_stg2_0 : Ref sig .tc).ty.Contents (Elt F) := oM.view.writes (Elt F) (fun _ => one32) (pieces m ρ c)

/-! ## The eight stores cover the output -/

omit [FloatOps F] in
/-- A rectangle of whole rows, by its rows. -/
theorem mem_rows {b n : ℕ} {off : Fin 2 → ℕ} {inb : ∀ a, off a + (⟨2, ![n, 512]⟩ : Shape).size a ≤ S2048x512.size a} (ho : off = ![b, 0])
    (y : S2048x512.Idx) : y ∈ (Rect.unit (s := S2048x512) off (⟨2, ![n, 512]⟩ : Shape).size inb).set ↔ b ≤ (y 0).val ∧ (y 0).val < b + n := by
  subst ho
  rw [Rect.mem_set_unit]
  have h1 : (y 1).val < 512 := (y 1).isLt
  constructor
  · intro h; exact h 0
  · intro h a
    fin_cases a
    · exact h
    · exact ⟨Nat.zero_le _, by simpa using h1⟩

theorem pieces_cover (y : S2048x512.Idx) : ∃ p ∈ pieces m ρ c, y ∈ p.1.set := by
  have h0 : (y 0).val < 2048 := (y 0).isLt
  have hd : (y 0).val / 512 < 4 := by omega
  have hy : (y 0).val = 512 * (⟨(y 0).val / 512, hd⟩ : Dev nD).val + (y 0).val % 512 := by
    show _ = 512 * ((y 0).val / 512) + _; omega
  have hr : (y 0).val % 512 < 512 := Nat.mod_lt _ (by decide)
  unfold pieces
  rcases dev_cases c ⟨(y 0).val / 512, hd⟩ with h | h | h | h <;> rw [h] at hy
  · exact ⟨ownPc m ρ c, by simp, (mem_rows (inb := k0_off3_inb c) (k0_off3_eq c) y).mpr (by omega)⟩
  · rcases lt_or_ge ((y 0).val % 512) 272 with h1 | h1
    · exact ⟨leftPc m ρ c, by simp, (mem_rows (inb := k0_off13_inb c) (off13_eq c) y).mpr (by omega)⟩
    rcases lt_or_ge ((y 0).val % 512) 480 with h2 | h2
    · exact ⟨leftPc2 m ρ c, by simp, (mem_rows (inb := k0_off21_inb c) (off21_eq c) y).mpr (by omega)⟩
    · exact ⟨leftPc3 m ρ c, by simp, (mem_rows (inb := k0_off27_inb c) (off27_eq c) y).mpr (by omega)⟩
  · rcases lt_or_ge ((y 0).val % 512) 32 with h1 | h1
    · exact ⟨rightPc3 m ρ c, by simp, (mem_rows (inb := k0_off30_inb c) (off30_eq c) y).mpr (by omega)⟩
    rcases lt_or_ge ((y 0).val % 512) 240 with h2 | h2
    · exact ⟨rightPc2 m ρ c, by simp, (mem_rows (inb := k0_off24_inb c) (off24_eq c) y).mpr (by omega)⟩
    · exact ⟨rightPc m ρ c, by simp, (mem_rows (inb := k0_off15_inb c) (off15_eq c) y).mpr (by omega)⟩
  · exact ⟨acrossPc m ρ c, by simp, (mem_rows (inb := k0_off18_inb c) (off18_eq c) y).mpr (by omega)⟩

/-- Whatever the output held before, the stores leave the same. -/
theorem writes_eq (f : (cc0_stg2_0 : Ref sig .tc).ty.Contents (Elt F)) : oM.view.writes (Elt F) f (pieces m ρ c) = outAt m ρ c := by
  have h := View.read_writes_of_cover oM.view f oM.view (fun _ => one32) (pieces m ρ c) (pieces_cover m ρ c)
  unfold outAt
  simp only [Memref.view_whole, View.read_whole] at h
  exact h

end Cert.AllGather

end
-- ==== Proof.PartsA.lean ====
/-
# The body up to the last remote copy

What each of the first five parts of the kernel's body uses and leaves: the barrier, all eight remote copies, the first two
waits, and the store of the device's own chunk.
-/
module

public import proofs.«01_k».proof.Proof.Steps
public import proofs.«01_k».proof.Proof.Block
public import proofs.«01_k».proof.Proof.Gen.KernelIdeal.Skeleton

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Running `p` on device `c`, nothing else interfering. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What every step may look at: the cells' records and the levels. -/
def env (K : Dev nD × Kind → ℕ) : sProp 𝕄 := iprop(records m ρ K ∗ levAts L lv)

instance env_persistent (K : Dev nD × Kind → ℕ) : BI.Persistent (env m ρ K) := by unfold env; infer_instance

/-- The device's own operand, at the share it keeps for its loads. -/
abbrev xKeep (c : Dev nD) : sProp 𝕄 := ((c : Thread nD τ).loc cc0_stg0_0) ↦{fullShare.left} xstg m ρ c
/-- The device's weight columns. -/
abbrev wKeep (c : Dev nD) : sProp 𝕄 := ((c : Thread nD τ).loc cc0_stg1_0) ↦{fullShare} wstg m ρ c
/-- The output staging buffer after the stores `L`. -/
def outPts (c : Dev nD) (L : List (View.Piece (Elt F) S2048x512 .f32)) : sProp 𝕄 :=
  iprop(∃ f : (cc0_stg2_0 : Ref sig .tc).ty.Contents (Elt F), ((c : Thread nD τ).loc cc0_stg2_0) ↦{fullShare} oM.view.writes (Elt F) f L)

section Out

variable (c : Dev nD)

/-- A load from the output buffer: whatever it reads, the buffer is as before. -/
theorem wp_out_load {α : Type} {Q : α → sProp 𝕄} {r : Rect S2048x512} {hl : oM.view.LoadsAt r.toLoadRect}
    {p : Prog (TpuEff nD τ sig (Elt F) Λ₀ .tc) α} (Ls : List (View.Piece (Elt F) S2048x512 .f32)) :
    outPts c Ls ⊢ iprop((outPts c Ls -∗ wp frame (wpE (defs₀ (F := F)) 𝒱₀ (c : Thread nD τ) none) Set.univ p Q) -∗ wp frame (wpE (defs₀ (F := F)) 𝒱₀ (c : Thread nD τ) none) Set.univ
        (.op (.load oM r.toLoadRect hl) fun _ => p) Q) := by
  unfold outPts
  iintro ⟨%f, H⟩ Hk
  iapply (wp_load 𝒱₀ (c : Thread nD τ) none Set.univ (m := oM) (Finset.subset_univ _)) $$ H
  iintro H
  iapply Hk
  iexists f; iexact H

/-- A store into the output buffer: one more in the list. -/
theorem wp_out_store {α : Type} {Q : α → sProp 𝕄} {r : Rect S2048x512} {v : r.shape.Idx → Elt F .f32}
    {hx : (oM.access r).Stores Finset.univ} {hm : Finset.univ = Finset.univ ∨ ∀ a, r.stride a = 1}
    {k : PUnit → Prog (TpuEff nD τ sig (Elt F) Λ₀ .tc) α} (Ls : List (View.Piece (Elt F) S2048x512 .f32)) :
    outPts c Ls ⊢ iprop((outPts c (⟨r, v⟩ :: Ls) -∗ wp frame (wpE (defs₀ (F := F)) 𝒱₀ (c : Thread nD τ) none) Set.univ (k ⟨⟩) Q)
        -∗ wp frame (wpE (defs₀ (F := F)) 𝒱₀ (c : Thread nD τ) none) Set.univ
        (.op (.store oM r v Finset.univ hx hm) k) Q) := by
  unfold outPts
  iintro ⟨%f, H⟩ Hk
  iapply (wp_store_writes 𝒱₀ (c : Thread nD τ) none Set.univ (Q := Q) (m := oM) (r := r) (w := v) (hx := hx) (hm := hm) (k := k) (L := Ls) (f := f)
    (S := Finset.univ) (Finset.subset_univ _)) $$ H
  iintro H
  iapply Hk
  iexists f; iexact H

end Out

/-- Every receive cell lies above the barrier. -/
theorem owed_above (c : Dev nD) (l : List (Fin 8)) : ∀ p ∈ l.map (owedRecv c), 1 < lvK p.1.2 := by
  intro p hp
  obtain ⟨s, -, rfl⟩ := List.mem_map.mp hp
  exact (by decide : ∀ s : Fin 8, 1 < lvK (some (true, s))) s
/-- The receive cells still owed lie above the transfer cell waited on. -/
theorem owed_late (c : Dev nD) (k : Bool × Fin 8) (l : List (Fin 8)) (h : ∀ s ∈ l, lvK (some k) < lvK (some (true, s))) :
    ∀ p ∈ l.map (owedRecv c), lvK (some k) < lvK p.1.2 := by
  intro p hp
  obtain ⟨s, hs, rfl⟩ := List.mem_map.mp hp
  exact h s hs

omit [FloatOps F] in
theorem barPay_false (c : Dev nD) : (barPay c false : sProp 𝕄) = iprop(landing 4 c ∗ landing 5 c ∗ landing 6 c ∗ landing 7 c) := rfl
omit [FloatOps F] in
theorem barPay_true (c : Dev nD) : (barPay c true : sProp 𝕄) = iprop(landing 0 c ∗ landing 1 c ∗ landing 2 c ∗ landing 3 c) := rfl

section Parts

variable (K : Dev nD × Kind → ℕ) (c : Dev nD)

/-- The first part reads the device's number; the words it works out are whatever they are. -/
theorem part1 {P : sProp 𝕄} {Q : _ → sProp 𝕄} (h : ∀ v2 v13 v24 v35 : BitVec 32, P ⊢ Q ⟨c, v2, v13, v24, v35⟩) :
    P ⊢ run c (k0_part1 xM (Memref.isWhole_whole _) wM (Memref.isWhole_whole _) oM (Memref.isWhole_whole _) gxM (Memref.isWhole_whole _)
      cc0_scratch1 cc0_scratch2) Q := by
  simp only [k0_part1_eq_skeleton]; unfold k0_part1_skel
  simp only [Prog.lift, Prog.bind_op, Prog.bind_ret, Prog.pure_eq_ret, run, wp_deviceId, wp_ret]
  iintro H
  imodintro
  iapply (h _ _ _ _)
  iexact H

/-- The barrier, the two first copies and the loads of the device's own chunk. -/
theorem part2 {Q : _ → sProp 𝕄} (v13 v24 : BitVec 32) :
    iprop(env m ρ K ∗ owing c (owedL c) ∗ dutyTok ER (kcell (left c, none)) 0 true ∗ dutyTok ER (kcell (right c, none)) 0 false
        ∗ barPay (left c) true ∗ barPay (right c) false ∗ pos c none ∗ cred (tallyAt (kcell (c, none)) () 2)
        ∗ sendKit 0 c ∗ sendKit 4 c ∗ sendPay m ρ 0 c ∗ sendPay m ρ 4 c ∗ xKeep m ρ c ∗ wKeep m ρ c)
      ⊢ iprop(((owing c ([1, 2, 3, 5, 6, 7].map (owedRecv c)) ∗ done c none ∗ due c (false, 0) ∗ due c (false, 4)
          ∗ landing 1 c ∗ landing 2 c ∗ landing 3 c ∗ landing 5 c ∗ landing 6 c ∗ landing 7 c ∗ xKeep m ρ c ∗ wKeep m ρ c)
          -∗ Q ⟨k0_pay1 (xv m ρ c), k0_pay2 (wv m ρ c)⟩)
        -∗ run c (k0_part2 xM (Memref.isWhole_whole _) wM (Memref.isWhole_whole _) oM (Memref.isWhole_whole _) gxM (Memref.isWhole_whole _)
            cc0_scratch1 cc0_scratch2 c v13 v24) Q) := by
  simp only [k0_part2_eq_skeleton]; unfold k0_part2_skel
  simp only [semSignalWord, semWaitWord, Prog.lift, Prog.bind_op, Prog.bind_ret, Prog.pure_eq_ret, dev1_eq c, dev2_eq c, run]
  unfold env
  iintro ⟨⟨#HR, #Hlev⟩, HO, HtL, HtR, HbL, HbR, Hat, Hc, Hk0, Hk4, Hs0, Hs4, Hx, Hw⟩ HQ
  iapply (wp_bar_signal m ρ K c (left c) true (by decide) _) $$ [HO HtL HbL]
  · isplitr; · iexact HR
    isplitl [HO]; · unfold owedL; iexact HO
    isplitl [HtL] <;> iassumption
  iintro HO
  iapply (wp_bar_signal m ρ K c (right c) false (by decide) _) $$ [HO HtR HbR]
  · isplitr; · iexact HR
    isplitl [HO]; · iexact HO
    isplitl [HtR] <;> iassumption
  iintro HO
  iapply (wp_bar_wait m ρ K c (by decide) _ (owed_above c _)) $$ [HO Hat Hc]
  · isplitr; · iexact HR
    isplitr; · iexact Hlev
    isplitl [HO]; · iexact HO
    isplitl [Hat] <;> iassumption
  iintro ⟨HO, Hd, Hb0, Hb1⟩
  ihave Hb0 := (Entails.of_eq (barPay_false c)) $$ Hb0
  ihave Hb1 := (Entails.of_eq (barPay_true c)) $$ Hb1
  icases Hb0 with ⟨Hl4, Hl5, Hl6, Hl7⟩
  icases Hb1 with ⟨Hl0, Hl1, Hl2, Hl3⟩
  iapply (wp_send_x m ρ K c 0 (by decide) _ (dev3_eq c) rfl rfl rfl (k0_off1_eq c) rfl _) $$ [HO Hk0 Hs0 Hl0]
  · isplitr; · iexact HR
    isplitl [HO]; · iexact HO
    isplitl [Hk0]; · iexact Hk0
    isplitl [Hs0] <;> iassumption
  iintro ⟨HO, Hu0⟩
  iapply (wp_send_x m ρ K c 4 (by decide) _ (dev4_eq c) rfl rfl rfl (k0_off2_eq c) rfl _) $$ [HO Hk4 Hs4 Hl4]
  · isplitr; · iexact HR
    isplitl [HO]; · iexact HO
    isplitl [Hk4]; · iexact Hk4
    isplitl [Hs4] <;> iassumption
  iintro ⟨HO, Hu4⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [wp_ret]; imodintro
  iapply HQ
  isplitl [HO]; · iexact HO
  isplitl [Hd]; · iexact Hd
  isplitl [Hu0]; · iexact Hu0
  isplitl [Hu4]; · iexact Hu4
  isplitl [Hl1]; · iexact Hl1
  isplitl [Hl2]; · iexact Hl2
  isplitl [Hl3]; · iexact Hl3
  isplitl [Hl5]; · iexact Hl5
  isplitl [Hl6]; · iexact Hl6
  isplitl [Hl7]; · iexact Hl7
  isplitl [Hx] <;> iassumption

/-- The store of the device's own chunk, and the wait for the left neighbour's first rows. -/
theorem part3 {Q : _ → sProp 𝕄} (v2 v13 v24 : BitVec 32) :
    iprop(env m ρ K ∗ owing c ([1, 2, 3, 5, 6, 7].map (owedRecv c)) ∗ pos c (some (true, 0)) ∗ due c (true, 0) ∗ outPts c [])
      ⊢ iprop(((owing c ([1, 2, 3, 5, 6, 7].map (owedRecv c)) ∗ done c (some (true, 0)) ∗ recvPay m ρ 0 c ∗ outPts c [ownPc m ρ c])
          -∗ Q ⟨⟩)
        -∗ run c (k0_part3 xM (Memref.isWhole_whole _) wM (Memref.isWhole_whole _) oM (Memref.isWhole_whole _) gxM (Memref.isWhole_whole _)
            cc0_scratch1 cc0_scratch2 c v2 v13 v24 (k0_pay1 (xv m ρ c)) (k0_pay2 (wv m ρ c))) Q) := by
  simp only [k0_part3_eq_skeleton]; unfold k0_part3_skel
  simp only [Prog.lift, Prog.bind_op, Prog.bind_ret, Prog.pure_eq_ret, run]
  unfold env
  iintro ⟨⟨#HR, #Hlev⟩, HO, Hat, Hc, Hout⟩ HQ
  iapply (wp_out_load c []) $$ Hout; iintro Hout
  iapply (wp_out_store c []) $$ Hout; iintro Hout
  iapply (wp_wait_recv m ρ K c 0 rfl _ (owed_late c (true, 0) [1, 2, 3, 5, 6, 7] (by decide)) rfl) $$ [HO Hat Hc]
  · isplitr; · iexact HR
    isplitr; · iexact Hlev
    isplitl [HO]; · iexact HO
    isplitl [Hat] <;> iassumption
  iintro ⟨HO, Hd, Hp⟩
  rw [wp_ret]; imodintro
  iapply HQ
  isplitl [HO]; · iexact HO
  isplitl [Hd]; · iexact Hd
  isplitl [Hp]; · iexact Hp
  unfold ownPc; iexact Hout

/-- The copies in slots 1, 2 and 3, and the wait for the right neighbour's last rows. -/
theorem part4 {Q : _ → sProp 𝕄} (v13 v24 : BitVec 32) :
    iprop(env m ρ K ∗ owing c ([1, 2, 3, 5, 6, 7].map (owedRecv c))
        ∗ (sendKit 1 c ∗ sendPay m ρ 1 c ∗ landing 1 c) ∗ (sendKit 2 c ∗ sendPay m ρ 2 c ∗ landing 2 c)
        ∗ (sendKit 3 c ∗ sendPay m ρ 3 c ∗ landing 3 c) ∗ pos c (some (true, 4)) ∗ due c (true, 4))
      ⊢ iprop(((owing c ([5, 6, 7].map (owedRecv c)) ∗ due c (false, 1) ∗ due c (false, 2) ∗ due c (false, 3)
          ∗ done c (some (true, 4)) ∗ recvPay m ρ 4 c) -∗ Q ⟨⟩)
        -∗ run c (k0_part4 xM (Memref.isWhole_whole _) wM (Memref.isWhole_whole _) oM (Memref.isWhole_whole _) gxM (Memref.isWhole_whole _)
            cc0_scratch1 cc0_scratch2 c v13 v24) Q) := by
  simp only [k0_part4_eq_skeleton]; unfold k0_part4_skel
  simp only [Prog.lift, Prog.bind_op, Prog.bind_ret, Prog.pure_eq_ret, run]
  unfold env
  iintro ⟨⟨#HR, #Hlev⟩, HO, ⟨Hk1, Hs1, Hl1⟩, ⟨Hk2, Hs2, Hl2⟩, ⟨Hk3, Hs3, Hl3⟩, Hat, Hc⟩ HQ
  iapply (wp_send_fwd m ρ K c 1 (by decide) _ (dev5_eq c) rfl rfl rfl (off5_eq c) _) $$ [HO Hk1 Hs1 Hl1]
  · isplitr; · iexact HR
    isplitl [HO]; · iexact HO
    isplitl [Hk1]; · iexact Hk1
    isplitl [Hs1] <;> iassumption
  iintro ⟨HO, Hu1⟩
  iapply (wp_send_x m ρ K c 2 (by decide) _ (dev6_eq c) rfl rfl rfl (k0_off6_eq c) rfl _) $$ [HO Hk2 Hs2 Hl2]
  · isplitr; · iexact HR
    isplitl [HO]; · iexact HO
    isplitl [Hk2]; · iexact Hk2
    isplitl [Hs2] <;> iassumption
  iintro ⟨HO, Hu2⟩
  iapply (wp_send_x m ρ K c 3 (by decide) _ (dev7_eq c) rfl rfl rfl (k0_off7_eq c) rfl _) $$ [HO Hk3 Hs3 Hl3]
  · isplitr; · iexact HR
    isplitl [HO]; · iexact HO
    isplitl [Hk3]; · iexact Hk3
    isplitl [Hs3] <;> iassumption
  iintro ⟨HO, Hu3⟩
  iapply (wp_wait_recv m ρ K c 4 rfl _ (owed_late c (true, 4) [5, 6, 7] (by decide)) rfl) $$ [HO Hat Hc]
  · isplitr; · iexact HR
    isplitr; · iexact Hlev
    isplitl [HO]; · iexact HO
    isplitl [Hat] <;> iassumption
  iintro ⟨HO, Hd, Hp⟩
  rw [wp_ret]; imodintro
  iapply HQ
  isplitl [HO]; · iexact HO
  isplitl [Hu1]; · iexact Hu1
  isplitl [Hu2]; · iexact Hu2
  isplitl [Hu3]; · iexact Hu3
  isplitl [Hd] <;> iassumption

/-- The last three copies, and the loads of the left neighbour's first rows. -/
theorem part5 {Q : _ → sProp 𝕄} {q : PosShare TreeShare} (v13 : BitVec 32) :
    iprop(env m ρ K ∗ owing c ([5, 6, 7].map (owedRecv c))
        ∗ (sendKit 5 c ∗ sendPay m ρ 5 c ∗ landing 5 c) ∗ (sendKit 6 c ∗ sendPay m ρ 6 c ∗ landing 6 c)
        ∗ (sendKit 7 c ∗ sendPay m ρ 7 c ∗ landing 7 c) ∗ gxPts c q (left c) 0 272 (gath m ρ) ∗ wKeep m ρ c)
      ⊢ iprop(((owing c [] ∗ due c (false, 5) ∗ due c (false, 6) ∗ due c (false, 7)
          ∗ gxPts c q (left c) 0 272 (gath m ρ) ∗ wKeep m ρ c)
          -∗ Q (k0_pay4 (gv m ρ 272 (k0_off12 c) (k0_off12_inb c)) (wv m ρ c)))
        -∗ run c (k0_part5 xM (Memref.isWhole_whole _) wM (Memref.isWhole_whole _) oM (Memref.isWhole_whole _) gxM (Memref.isWhole_whole _)
            cc0_scratch1 cc0_scratch2 c v13) Q) := by
  simp only [k0_part5_eq_skeleton]; unfold k0_part5_skel
  simp only [Prog.lift, Prog.bind_op, Prog.bind_ret, Prog.pure_eq_ret, run]
  unfold env
  iintro ⟨⟨#HR, #Hlev⟩, HO, ⟨Hk5, Hs5, Hl5⟩, ⟨Hk6, Hs6, Hl6⟩, ⟨Hk7, Hs7, Hl7⟩, Hg, Hw⟩ HQ
  iapply (wp_send_fwd m ρ K c 5 (by decide) _ (dev8_eq c) rfl rfl rfl (off9_send_eq c) _) $$ [HO Hk5 Hs5 Hl5]
  · isplitr; · iexact HR
    isplitl [HO]; · iexact HO
    isplitl [Hk5]; · iexact Hk5
    isplitl [Hs5] <;> iassumption
  iintro ⟨HO, Hu5⟩
  iapply (wp_send_x m ρ K c 6 (by decide) _ (dev9_eq c) rfl rfl rfl (k0_off10_eq c) rfl _) $$ [HO Hk6 Hs6 Hl6]
  · isplitr; · iexact HR
    isplitl [HO]; · iexact HO
    isplitl [Hk6]; · iexact Hk6
    isplitl [Hs6] <;> iassumption
  iintro ⟨HO, Hu6⟩
  iapply (wp_send_x m ρ K c 7 (by decide) _ (dev10_eq c) rfl rfl rfl (k0_off11_eq c) rfl _) $$ [HO Hk7 Hs7 Hl7]
  · isplitr; · iexact HR
    isplitl [HO]; · iexact HO
    isplitl [Hk7]; · iexact Hk7
    isplitl [Hs7] <;> iassumption
  iintro ⟨HO, Hu7⟩
  iapply (wp_load_gx c (off12_eq c)) $$ Hg; iintro Hg
  iapply (wp_load 𝒱₀ (c : Thread nD τ) none Set.univ (m := wM) (Finset.subset_univ _)) $$ Hw; iintro Hw
  rw [wp_ret]; imodintro
  iapply HQ
  isplitl [HO]; · iexact HO
  isplitl [Hu5]; · iexact Hu5
  isplitl [Hu6]; · iexact Hu6
  isplitl [Hu7]; · iexact Hu7
  isplitl [Hg] <;> iassumption

end Parts

end Cert.AllGather

end
-- ==== Proof.PartsB.lean ====
/-
# The body after the last remote copy

What each of the later parts of the kernel's body uses and leaves: the stores of the other devices' rows, each after the wait for
the rows it needs, and the waits for the device's own copies to be read out.
-/
module

public import proofs.«01_k».proof.Proof.PartsA

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- What slot `s` delivers, its chunk and rows named. -/
theorem recvPay_at (s : Fin 8) (c o : Dev nD) (l n : ℕ) (ho : rorg s c = o) (hl : lo s = l) (hn : len s = n) :
    (recvPay m ρ s c : sProp 𝕄) = gxPts c fullShare o l n (gath m ρ) := by
  subst ho hl hn; rfl

omit [FloatOps F] in
/-- The two halves of the chunk across the ring, side by side. -/
theorem across_join (c : Dev nD) :
    iprop(recvPay m ρ 1 c ∗ recvPay m ρ 5 c) ⊣⊢ (gxPts c fullShare (across c) 0 512 (gath m ρ) : sProp 𝕄) := by
  rw [recvPay_at m ρ 1 c (across c) 0 256 (rorg_one c) rfl rfl, recvPay_at m ρ 5 c (across c) 256 256 (rorg_five c) rfl rfl]
  exact (gxPts_split c fullShare (across c) 0 256 256 (gath m ρ)).symm

section Parts

variable (K : Dev nD × Kind → ℕ) (c : Dev nD)

/-- The left neighbour's first rows stored; the right neighbour's last rows loaded. -/
theorem part6 {Q : _ → sProp 𝕄} {q : PosShare TreeShare} (v13 v24 : BitVec 32) (Ls : List (View.Piece (Elt F) S2048x512 .f32)) :
    iprop(outPts c Ls ∗ gxPts c q (right c) 240 272 (gath m ρ) ∗ wKeep m ρ c)
      ⊢ iprop(((outPts c (leftPc m ρ c :: Ls) ∗ gxPts c q (right c) 240 272 (gath m ρ) ∗ wKeep m ρ c)
          -∗ Q (k0_pay6 (gv m ρ 272 (k0_off14 c) (k0_off14_inb c)) (wv m ρ c)))
        -∗ run c (k0_part6 xM (Memref.isWhole_whole _) wM (Memref.isWhole_whole _) oM (Memref.isWhole_whole _) gxM (Memref.isWhole_whole _)
            cc0_scratch1 cc0_scratch2 c v13 v24 (k0_pay4 (gv m ρ 272 (k0_off12 c) (k0_off12_inb c)) (wv m ρ c))) Q) := by
  simp only [k0_part6_eq_skeleton]; unfold k0_part6_skel
  simp only [Prog.lift, Prog.bind_op, Prog.bind_ret, Prog.pure_eq_ret, run]
  iintro ⟨Hout, Hg, Hw⟩ HQ
  iapply (wp_out_load c _) $$ Hout; iintro Hout
  iapply (wp_out_store c _) $$ Hout; iintro Hout
  iapply (wp_load_gx c (off14_eq c)) $$ Hg; iintro Hg
  iapply (wp_load 𝒱₀ (c : Thread nD τ) none Set.univ (m := wM) (Finset.subset_univ _)) $$ Hw; iintro Hw
  iapply (wp_out_load c _) $$ Hout; iintro Hout
  rw [wp_ret]; imodintro
  iapply HQ
  isplitl [Hout]
  · iexact Hout
  isplitl [Hg] <;> iassumption

/-- The right neighbour's last rows stored; the two halves of the chunk across the ring awaited and loaded. -/
theorem part7 {Q : _ → sProp 𝕄} (v13 v35 : BitVec 32) (Ls : List (View.Piece (Elt F) S2048x512 .f32)) :
    iprop(env m ρ K ∗ owing c [] ∗ outPts c Ls ∗ (pos c (some (true, 1)) ∗ due c (true, 1)) ∗ (pos c (some (true, 5)) ∗ due c (true, 5)) ∗ wKeep m ρ c)
      ⊢ iprop(((owing c [] ∗ outPts c (rightPc m ρ c :: Ls) ∗ done c (some (true, 1)) ∗ done c (some (true, 5)) ∗ gxPts c fullShare (across c) 0 512 (gath m ρ) ∗ wKeep m ρ c)
          -∗ Q ⟨k0_pay8 (gv m ρ 512 (k0_off17 c) (k0_off17_inb c)) (wv m ρ c), k0_pay9 (gv m ρ 512 (k0_off17 c) (k0_off17_inb c)) (wv m ρ c), one32⟩)
        -∗ run c (k0_part7 xM (Memref.isWhole_whole _) wM (Memref.isWhole_whole _) oM (Memref.isWhole_whole _) gxM (Memref.isWhole_whole _)
            cc0_scratch1 cc0_scratch2 c v13 v35 (k0_pay6 (gv m ρ 272 (k0_off14 c) (k0_off14_inb c)) (wv m ρ c))) Q) := by
  simp only [k0_part7_eq_skeleton]; unfold k0_part7_skel
  simp only [Prog.lift, Prog.bind_op, Prog.bind_ret, Prog.pure_eq_ret, run]
  unfold env
  iintro ⟨⟨#HR, #Hlev⟩, HO, Hout, ⟨HatR1, HcR1⟩, ⟨HatR5, HcR5⟩, Hw⟩ HQ
  iapply (wp_out_store c _) $$ Hout; iintro Hout
  iapply (wp_wait_recv m ρ K c 1 rfl [] (fun _ h => nomatch h) rfl) $$ [HO HatR1 HcR1]
  · isplitr; · iexact HR
    isplitr; · iexact Hlev
    isplitl [HO]; · iexact HO
    isplitl [HatR1] <;> iassumption
  iintro ⟨HO, HdR1, HpR1⟩
  iapply (wp_wait_recv m ρ K c 5 rfl [] (fun _ h => nomatch h) rfl) $$ [HO HatR5 HcR5]
  · isplitr; · iexact HR
    isplitr; · iexact Hlev
    isplitl [HO]; · iexact HO
    isplitl [HatR5] <;> iassumption
  iintro ⟨HO, HdR5, HpR5⟩
  ihave Hg := (across_join m ρ c).1 $$ [HpR1 HpR5]
  · isplitl [HpR1] <;> iassumption
  iapply (wp_load_gx c (off17_eq c)) $$ Hg; iintro Hg
  iapply (wp_load 𝒱₀ (c : Thread nD τ) none Set.univ (m := wM) (Finset.subset_univ _)) $$ Hw; iintro Hw
  rw [wp_ret]; imodintro
  iapply HQ
  isplitl [HO]; · iexact HO
  isplitl [Hout]
  · iexact Hout
  isplitl [HdR1]
  · iexact HdR1
  isplitl [HdR5]
  · iexact HdR5
  isplitl [Hg] <;> iassumption

/-- The chunk across the ring stored; the left neighbour's next rows awaited and loaded. -/
theorem part8 {Q : _ → sProp 𝕄} (v13 v35 : BitVec 32) (Ls : List (View.Piece (Elt F) S2048x512 .f32)) :
    iprop(env m ρ K ∗ owing c [] ∗ outPts c Ls ∗ (pos c (some (true, 2)) ∗ due c (true, 2)) ∗ wKeep m ρ c)
      ⊢ iprop(((owing c [] ∗ outPts c (acrossPc m ρ c :: Ls) ∗ done c (some (true, 2)) ∗ gxPts c fullShare (left c) 272 208 (gath m ρ) ∗ wKeep m ρ c)
          -∗ Q ⟨k0_pay11 (gv m ρ 208 (k0_off20 c) (k0_off20_inb c)) (wv m ρ c), Scalar.addi (Scalar.muli v13 512#32) 272#32⟩)
        -∗ run c (k0_part8 xM (Memref.isWhole_whole _) wM (Memref.isWhole_whole _) oM (Memref.isWhole_whole _) gxM (Memref.isWhole_whole _)
            cc0_scratch1 cc0_scratch2 c v13 v35 (k0_pay8 (gv m ρ 512 (k0_off17 c) (k0_off17_inb c)) (wv m ρ c))
            (k0_pay9 (gv m ρ 512 (k0_off17 c) (k0_off17_inb c)) (wv m ρ c)) one32) Q) := by
  simp only [k0_part8_eq_skeleton]; unfold k0_part8_skel
  simp only [Prog.lift, Prog.bind_op, Prog.bind_ret, Prog.pure_eq_ret, run]
  unfold env
  iintro ⟨⟨#HR, #Hlev⟩, HO, Hout, ⟨HatR2, HcR2⟩, Hw⟩ HQ
  iapply (wp_out_load c _) $$ Hout; iintro Hout
  iapply (wp_out_store c _) $$ Hout; iintro Hout
  iapply (wp_wait_recv m ρ K c 2 rfl [] (fun _ h => nomatch h) rfl) $$ [HO HatR2 HcR2]
  · isplitr; · iexact HR
    isplitr; · iexact Hlev
    isplitl [HO]; · iexact HO
    isplitl [HatR2] <;> iassumption
  iintro ⟨HO, HdR2, HpR2⟩
  ihave HpR2 := (Entails.of_eq (recvPay_at m ρ 2 c (left c) 272 208 rfl rfl rfl)) $$ HpR2
  iapply (wp_load_gx c (off20_eq c)) $$ HpR2; iintro HpR2
  iapply (wp_load 𝒱₀ (c : Thread nD τ) none Set.univ (m := wM) (Finset.subset_univ _)) $$ Hw; iintro Hw
  rw [wp_ret]; imodintro
  iapply HQ
  isplitl [HO]; · iexact HO
  isplitl [Hout]
  · iexact Hout
  isplitl [HdR2]
  · iexact HdR2
  isplitl [HpR2] <;> iassumption

/-- Those rows stored; the right neighbour's middle rows awaited, loaded and stored. -/
theorem part9 {Q : _ → sProp 𝕄} (v13 v24 v265 : BitVec 32) (Ls : List (View.Piece (Elt F) S2048x512 .f32)) :
    iprop(env m ρ K ∗ owing c [] ∗ outPts c Ls ∗ (pos c (some (true, 6)) ∗ due c (true, 6)) ∗ wKeep m ρ c)
      ⊢ iprop(((owing c [] ∗ outPts c (rightPc2 m ρ c :: leftPc2 m ρ c :: Ls) ∗ done c (some (true, 6)) ∗ gxPts c fullShare (right c) 32 208 (gath m ρ) ∗ wKeep m ρ c)
          -∗ Q 1#32)
        -∗ run c (k0_part9 xM (Memref.isWhole_whole _) wM (Memref.isWhole_whole _) oM (Memref.isWhole_whole _) gxM (Memref.isWhole_whole _)
            cc0_scratch1 cc0_scratch2 c v13 v24 (k0_pay11 (gv m ρ 208 (k0_off20 c) (k0_off20_inb c)) (wv m ρ c)) v265) Q) := by
  simp only [k0_part9_eq_skeleton]; unfold k0_part9_skel
  simp only [Prog.lift, Prog.bind_op, Prog.bind_ret, Prog.pure_eq_ret, run]
  unfold env
  iintro ⟨⟨#HR, #Hlev⟩, HO, Hout, ⟨HatR6, HcR6⟩, Hw⟩ HQ
  iapply (wp_out_load c _) $$ Hout; iintro Hout
  iapply (wp_out_store c _) $$ Hout; iintro Hout
  iapply (wp_wait_recv m ρ K c 6 rfl [] (fun _ h => nomatch h) rfl) $$ [HO HatR6 HcR6]
  · isplitr; · iexact HR
    isplitr; · iexact Hlev
    isplitl [HO]; · iexact HO
    isplitl [HatR6] <;> iassumption
  iintro ⟨HO, HdR6, HpR6⟩
  ihave HpR6 := (Entails.of_eq (recvPay_at m ρ 6 c (right c) 32 208 rfl rfl rfl)) $$ HpR6
  iapply (wp_load_gx c (off23_eq c)) $$ HpR6; iintro HpR6
  iapply (wp_load 𝒱₀ (c : Thread nD τ) none Set.univ (m := wM) (Finset.subset_univ _)) $$ Hw; iintro Hw
  iapply (wp_out_load c _) $$ Hout; iintro Hout
  iapply (wp_out_store c _) $$ Hout; iintro Hout
  rw [wp_ret]; imodintro
  iapply HQ
  isplitl [HO]; · iexact HO
  isplitl [Hout]
  · iexact Hout
  isplitl [HdR6]
  · iexact HdR6
  isplitl [HpR6] <;> iassumption

/-- The left neighbour's last rows awaited, loaded and stored. -/
theorem part10 {Q : _ → sProp 𝕄} (v13 v1 : BitVec 32) (Ls : List (View.Piece (Elt F) S2048x512 .f32)) :
    iprop(env m ρ K ∗ owing c [] ∗ outPts c Ls ∗ (pos c (some (true, 3)) ∗ due c (true, 3)) ∗ wKeep m ρ c)
      ⊢ iprop(((owing c [] ∗ outPts c (leftPc3 m ρ c :: Ls) ∗ done c (some (true, 3)) ∗ gxPts c fullShare (left c) 480 32 (gath m ρ) ∗ wKeep m ρ c)
          -∗ Q ⟨⟩)
        -∗ run c (k0_part10 xM (Memref.isWhole_whole _) wM (Memref.isWhole_whole _) oM (Memref.isWhole_whole _) gxM (Memref.isWhole_whole _)
            cc0_scratch1 cc0_scratch2 c v13 v1) Q) := by
  simp only [k0_part10_eq_skeleton]; unfold k0_part10_skel
  simp only [Prog.lift, Prog.bind_op, Prog.bind_ret, Prog.pure_eq_ret, run]
  unfold env
  iintro ⟨⟨#HR, #Hlev⟩, HO, Hout, ⟨HatR3, HcR3⟩, Hw⟩ HQ
  iapply (wp_wait_recv m ρ K c 3 rfl [] (fun _ h => nomatch h) rfl) $$ [HO HatR3 HcR3]
  · isplitr; · iexact HR
    isplitr; · iexact Hlev
    isplitl [HO]; · iexact HO
    isplitl [HatR3] <;> iassumption
  iintro ⟨HO, HdR3, HpR3⟩
  ihave HpR3 := (Entails.of_eq (recvPay_at m ρ 3 c (left c) 480 32 rfl rfl rfl)) $$ HpR3
  iapply (wp_load_gx c (off26_eq c)) $$ HpR3; iintro HpR3
  iapply (wp_load 𝒱₀ (c : Thread nD τ) none Set.univ (m := wM) (Finset.subset_univ _)) $$ Hw; iintro Hw
  iapply (wp_out_load c _) $$ Hout; iintro Hout
  iapply (wp_out_store c _) $$ Hout; iintro Hout
  rw [wp_ret]; imodintro
  iapply HQ
  isplitl [HO]; · iexact HO
  isplitl [Hout]
  · iexact Hout
  isplitl [HdR3]
  · iexact HdR3
  isplitl [HpR3] <;> iassumption

/-- The right neighbour's first rows awaited, loaded and stored; slot 0's copy read out. -/
theorem part11 {Q : _ → sProp 𝕄} (v24 : BitVec 32) (Ls : List (View.Piece (Elt F) S2048x512 .f32)) :
    iprop(env m ρ K ∗ owing c [] ∗ outPts c Ls ∗ (pos c (some (true, 7)) ∗ due c (true, 7)) ∗ (pos c (some (false, 0)) ∗ due c (false, 0)) ∗ wKeep m ρ c)
      ⊢ iprop(((owing c [] ∗ outPts c (rightPc3 m ρ c :: Ls) ∗ done c (some (true, 7)) ∗ gxPts c fullShare (right c) 0 32 (gath m ρ) ∗ (done c (some (false, 0)) ∗ sendPay m ρ 0 c) ∗ wKeep m ρ c)
          -∗ Q ⟨⟩)
        -∗ run c (k0_part11 xM (Memref.isWhole_whole _) wM (Memref.isWhole_whole _) oM (Memref.isWhole_whole _) gxM (Memref.isWhole_whole _)
            cc0_scratch1 cc0_scratch2 c v24) Q) := by
  simp only [k0_part11_eq_skeleton]; unfold k0_part11_skel
  simp only [Prog.lift, Prog.bind_op, Prog.bind_ret, Prog.pure_eq_ret, run]
  unfold env
  iintro ⟨⟨#HR, #Hlev⟩, HO, Hout, ⟨HatR7, HcR7⟩, ⟨HatS0, HcS0⟩, Hw⟩ HQ
  iapply (wp_wait_recv m ρ K c 7 rfl [] (fun _ h => nomatch h) rfl) $$ [HO HatR7 HcR7]
  · isplitr; · iexact HR
    isplitr; · iexact Hlev
    isplitl [HO]; · iexact HO
    isplitl [HatR7] <;> iassumption
  iintro ⟨HO, HdR7, HpR7⟩
  ihave HpR7 := (Entails.of_eq (recvPay_at m ρ 7 c (right c) 0 32 rfl rfl rfl)) $$ HpR7
  iapply (wp_load_gx c (off29_eq c)) $$ HpR7; iintro HpR7
  iapply (wp_load 𝒱₀ (c : Thread nD τ) none Set.univ (m := wM) (Finset.subset_univ _)) $$ Hw; iintro Hw
  iapply (wp_out_load c _) $$ Hout; iintro Hout
  iapply (wp_out_store c _) $$ Hout; iintro Hout
  iapply (wp_wait_send m ρ K c 0 rfl [] (fun _ h => nomatch h) rfl) $$ [HO HatS0 HcS0]
  · isplitr; · iexact HR
    isplitr; · iexact Hlev
    isplitl [HO]; · iexact HO
    isplitl [HatS0] <;> iassumption
  iintro ⟨HO, HdS0, HpS0⟩
  rw [wp_ret]; imodintro
  iapply HQ
  isplitl [HO]; · iexact HO
  isplitl [Hout]
  · iexact Hout
  isplitl [HdR7]
  · iexact HdR7
  isplitl [HpR7]
  · iexact HpR7
  isplitl [HdS0 HpS0]
  · isplitl [HdS0] <;> iassumption
  iexact Hw

/-- Slots 1 to 4 read out. -/
theorem part12 {Q : _ → sProp 𝕄} :
    iprop(env m ρ K ∗ owing c [] ∗ (pos c (some (false, 1)) ∗ due c (false, 1)) ∗ (pos c (some (false, 2)) ∗ due c (false, 2)) ∗ (pos c (some (false, 3)) ∗ due c (false, 3)) ∗ (pos c (some (false, 4)) ∗ due c (false, 4)))
      ⊢ iprop(((owing c [] ∗ (done c (some (false, 1)) ∗ sendPay m ρ 1 c) ∗ (done c (some (false, 2)) ∗ sendPay m ρ 2 c) ∗ (done c (some (false, 3)) ∗ sendPay m ρ 3 c) ∗ (done c (some (false, 4)) ∗ sendPay m ρ 4 c))
          -∗ Q ⟨⟩)
        -∗ run c (k0_part12 xM (Memref.isWhole_whole _) wM (Memref.isWhole_whole _) oM (Memref.isWhole_whole _) gxM (Memref.isWhole_whole _)
            cc0_scratch1 cc0_scratch2 c ) Q) := by
  simp only [k0_part12_eq_skeleton]; unfold k0_part12_skel
  simp only [Prog.lift, Prog.bind_op, Prog.bind_ret, Prog.pure_eq_ret, run]
  unfold env
  iintro ⟨⟨#HR, #Hlev⟩, HO, ⟨HatS1, HcS1⟩, ⟨HatS2, HcS2⟩, ⟨HatS3, HcS3⟩, ⟨HatS4, HcS4⟩⟩ HQ
  iapply (wp_wait_send m ρ K c 1 rfl [] (fun _ h => nomatch h) rfl) $$ [HO HatS1 HcS1]
  · isplitr; · iexact HR
    isplitr; · iexact Hlev
    isplitl [HO]; · iexact HO
    isplitl [HatS1] <;> iassumption
  iintro ⟨HO, HdS1, HpS1⟩
  iapply (wp_wait_send m ρ K c 2 rfl [] (fun _ h => nomatch h) rfl) $$ [HO HatS2 HcS2]
  · isplitr; · iexact HR
    isplitr; · iexact Hlev
    isplitl [HO]; · iexact HO
    isplitl [HatS2] <;> iassumption
  iintro ⟨HO, HdS2, HpS2⟩
  iapply (wp_wait_send m ρ K c 3 rfl [] (fun _ h => nomatch h) rfl) $$ [HO HatS3 HcS3]
  · isplitr; · iexact HR
    isplitr; · iexact Hlev
    isplitl [HO]; · iexact HO
    isplitl [HatS3] <;> iassumption
  iintro ⟨HO, HdS3, HpS3⟩
  iapply (wp_wait_send m ρ K c 4 rfl [] (fun _ h => nomatch h) rfl) $$ [HO HatS4 HcS4]
  · isplitr; · iexact HR
    isplitr; · iexact Hlev
    isplitl [HO]; · iexact HO
    isplitl [HatS4] <;> iassumption
  iintro ⟨HO, HdS4, HpS4⟩
  rw [wp_ret]; imodintro
  iapply HQ
  isplitl [HO]; · iexact HO
  isplitl [HdS1 HpS1]
  · isplitl [HdS1] <;> iassumption
  isplitl [HdS2 HpS2]
  · isplitl [HdS2] <;> iassumption
  isplitl [HdS3 HpS3]
  · isplitl [HdS3] <;> iassumption
  isplitl [HdS4] <;> iassumption

end Parts

end Cert.AllGather

end
-- ==== Proof.Hold.lean ====
/-
# How the buffers are split and put back together

The gather buffer is the device's own chunk and the eight row ranges it receives; the operand is the share kept for the loads and
the rows six of the slots send; the rows received first are a half kept for the loads, the rows passed on, and a rest.
-/
module

public import proofs.«01_k».proof.Proof.Sched

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (m : (ℓ : Loc nD τ sig) → Buf (Elt F) ℓ) (ρ : Dev nD → PrngReg)

/-- A family over the eight slots, written out. -/
theorem bigSep_slots {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl

/-- The whole gather buffer of device `c`. -/
abbrev gxAll (c : Dev nD) (f : (cc0_scratch0 : Ref sig .tc).ty.Contents (Elt F)) : sProp 𝕄 := ((c : Thread nD τ).loc cc0_scratch0) ↦{fullShare} f

/-- The eight received row ranges together. -/
theorem rreg_pts (c : Dev nD) (f : (cc0_scratch0 : Ref sig .tc).ty.Contents (Elt F)) :
    ((((c : Thread nD τ).loc cc0_scratch0) ↦[Finset.univ.biUnion (rreg c)]{fullShare} f) : sProp 𝕄)
      = bigSep Finset.univ fun s => ((c : Thread nD τ).loc cc0_scratch0) ↦[reg (rorg s c) (lo s) (len s)]{fullShare} f := by
  have h := pointsTo_biUnion (Ix := Unit) (Name := ℕ) (U := UU) (Lvl := ℕ) (ℓ := (c : Thread nD τ).loc cc0_scratch0) (q := fullShare) (f := f) Finset.univ (rreg c) (rreg_disjoint c)
  refine Eq.trans ?_ h
  congr 1

theorem gx_split (c : Dev nD) (f) :
    (gxAll c f : sProp 𝕄) ⊣⊢ iprop(gxPts c fullShare c 0 512 f ∗ bigSep Finset.univ fun s => gxPts c fullShare (rorg s c) (lo s) (len s) f) := by
  unfold gxPts
  rw [← rreg_pts c f]
  have h := pointsTo_union (Ix := Unit) (Val := Elt F) (Name := ℕ) (U := UU) (Lvl := ℕ) (ℓ := (c : Thread nD τ).loc cc0_scratch0) (q := fullShare) (f := f) (own_disjoint c)
  rw [← gx_cover c] at h
  exact h

/-- Rows the device gives away for slot `s` to land in, as its sender takes them. -/
theorem landing_intro (s : Fin 8) (c : Dev nD) (f) : (gxPts c fullShare (rorg s c) (lo s) (len s) f : sProp 𝕄) ⊢ landing s (src s c) := by
  unfold landing
  rw [tgt_src]
  iintro H
  iexists f; iexact H

/-- The gather buffer given away: the own chunk stays, the left neighbour gets the rows it fills, and so does the right one. -/
theorem gx_open (c : Dev nD) (f) : (gxAll c f : sProp 𝕄) ⊢ iprop(gxPts c fullShare c 0 512 f ∗ barPay (left c) true ∗ barPay (right c) false) := by
  have hl : iprop(gxPts c fullShare c 0 512 f ∗ bigSep Finset.univ fun s : Fin 8 => landing s (src s c))
      ⊢ (iprop(gxPts c fullShare c 0 512 f ∗ barPay (left c) true ∗ barPay (right c) false) : sProp 𝕄) := by
    rw [bigSep_slots,
      show (barPay (left c) true : sProp 𝕄) = iprop(landing 0 (src 0 c) ∗ landing 1 (src 1 c) ∗ landing 2 (src 2 c) ∗ landing 3 (src 3 c)) from rfl,
      show (barPay (right c) false : sProp 𝕄) = iprop(landing 4 (src 4 c) ∗ landing 5 (src 5 c) ∗ landing 6 (src 6 c) ∗ landing 7 (src 7 c)) from rfl]
    iintro ⟨H, H0, H1, H2, H3, H4, H5, H6, H7⟩
    isplitl [H]; · iexact H
    isplitl [H0 H1 H2 H3]
    · isplitl [H0]; · iexact H0
      isplitl [H1]; · iexact H1
      isplitl [H2] <;> iassumption
    isplitl [H4]; · iexact H4
    isplitl [H5]; · iexact H5
    isplitl [H6] <;> iassumption
  exact (gx_split c f).1.trans (Entails.trans (BI.Laws.sep_mono .rfl (bigSep_mono fun s _ => landing_intro s c f)) hl)

/-- The gather buffer whole again: the own chunk as it was, the rest as received. -/
theorem gx_close (c : Dev nD) (f) :
    iprop(gxPts c fullShare c 0 512 f ∗ bigSep Finset.univ fun s => recvPay m ρ s c) ⊢ (iprop(∃ g, gxAll c g) : sProp 𝕄) := by
  unfold recvPay gxPts
  rw [← rreg_pts c (gath m ρ)]
  have h := pointsTo_join (Ix := Unit) (Val := Elt F) (Name := ℕ) (U := UU) (Lvl := ℕ) (ℓ := (c : Thread nD τ).loc cc0_scratch0) (q := fullShare) (f := f) (g := gath m ρ) (own_disjoint c)
  rw [← gx_cover c] at h
  iintro H
  iexists _
  iapply h
  iexact H

/-- The rows received in slot 0: a half for the loads, the rows slot 1 passes on, and a rest. -/
theorem recv0_open (c : Dev nD) :
    (recvPay m ρ 0 c : sProp 𝕄) ⊣⊢ iprop(gxPts c fullShare.left (left c) 0 272 (gath m ρ) ∗ sendPay m ρ 1 c ∗ gxPts c fullShare.right (left c) 256 16 (gath m ρ)) := by
  rw [show (recvPay m ρ 0 c : sProp 𝕄) = gxPts c fullShare (left c) 0 272 (gath m ρ) from rfl,
    show (sendPay m ρ 1 c : sProp 𝕄) = gxPts c fullShare.right (left c) 0 256 (gath m ρ) from rfl]
  exact (gxPts_halves c fullShare (left c) 0 272 (gath m ρ)).trans (sep_congr .rfl (gxPts_split c fullShare.right (left c) 0 256 16 (gath m ρ)))

/-- The rows received in slot 4, likewise: slot 5 passes on their last 256. -/
theorem recv4_open (c : Dev nD) :
    (recvPay m ρ 4 c : sProp 𝕄) ⊣⊢ iprop(gxPts c fullShare.left (right c) 240 272 (gath m ρ) ∗ gxPts c fullShare.right (right c) 240 16 (gath m ρ) ∗ sendPay m ρ 5 c) := by
  rw [show (recvPay m ρ 4 c : sProp 𝕄) = gxPts c fullShare (right c) 240 272 (gath m ρ) from rfl,
    show (sendPay m ρ 5 c : sProp 𝕄) = gxPts c fullShare.right (right c) 256 256 (gath m ρ) from rfl]
  exact (gxPts_halves c fullShare (right c) 240 272 (gath m ρ)).trans (sep_congr .rfl (gxPts_split c fullShare.right (right c) 240 16 256 (gath m ρ)))

/-- A quarter of the operand, cut into three row ranges. -/
theorem xPts_three (c : Dev nD) (q) (a b d : ℕ) :
    (xPts m ρ c q 0 (a + b + d) : sProp 𝕄) ⊣⊢ iprop(xPts m ρ c q 0 a ∗ xPts m ρ c q a b ∗ xPts m ρ c q (a + b) d) := by
  have h1 := xPts_split m ρ c q 0 (a + b) d
  have h2 := xPts_split m ρ c q 0 a b
  rw [Nat.zero_add] at h1 h2
  exact h1.trans ((sep_congr h2 .rfl).trans sep_assoc)

/-- The operand: the share kept for the loads, and the rows the six slots send. -/
theorem x_open (c : Dev nD) :
    (((c : Thread nD τ).loc cc0_stg0_0 ↦{fullShare} xstg m ρ c) : sProp 𝕄)
      ⊣⊢ iprop(((c : Thread nD τ).loc cc0_stg0_0 ↦{fullShare.left} xstg m ρ c)
        ∗ (sendPay m ρ 0 c ∗ sendPay m ρ 2 c ∗ sendPay m ρ 3 c) ∗ (sendPay m ρ 7 c ∗ sendPay m ρ 6 c ∗ sendPay m ρ 4 c)) := by
  rw [← xPts_all m ρ c fullShare, ← xPts_all m ρ c fullShare.left]
  refine (xPts_halves m ρ c fullShare 0 512).trans (sep_congr .rfl ((xPts_halves m ρ c fullShare.right 0 512).trans (sep_congr ?_ ?_)))
  · exact xPts_three m ρ c fullShare.right.left 272 208 32
  · exact xPts_three m ρ c fullShare.right.right 32 208 272

end Cert.AllGather

end
-- ==== Proof.State.lean ====
/-
# What a device starts from and ends with

The protocol state a device's body is entered with, what it leaves, and the pipeline's data for the one launch.
-/
module

public import proofs.«01_k».proof.Proof.PartsB
public import proofs.«01_k».proof.Proof.Hold
public import proofs.«01_k».proof.Proof.Gen.KernelIdeal.Points
public import proofs.«01_k».proof.Proof.Gen.KernelIdeal.Frame

@[expose] public section

noncomputable section

namespace Cert.AllGather

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The duties device `c` pays: both neighbours' barriers, and both cells of each of its slots. -/
def kits (c : Dev nD) : sProp 𝕄 :=
  iprop(dutyTok ER (kcell (left c, none)) 0 true ∗ dutyTok ER (kcell (right c, none)) 0 false ∗ bigSep Finset.univ fun s => sendKit s c)

/-- Device `c` at the start of all its seventeen cells' rounds. -/
def posAll (c : Dev nD) : sProp 𝕄 :=
  iprop(pos c none ∗ (bigSep Finset.univ fun s => pos c (some (false, s))) ∗ bigSep Finset.univ fun s => pos c (some (true, s)))

/-- All its cells closed. -/
def doneAll (c : Dev nD) : sProp 𝕄 :=
  iprop(done c none ∗ (bigSep Finset.univ fun s => done c (some (false, s))) ∗ bigSep Finset.univ fun s => done c (some (true, s)))

/-- The rights to wait it is given at launch: its barrier's two units, and what each slot brings it. -/
def creds (c : Dev nD) : sProp 𝕄 :=
  iprop(cred (tallyAt (kcell (c, none)) () 2) ∗ bigSep Finset.univ fun s => due c (true, s))

/-- The protocol's state at device `c`, the cells' invariants under the names `K`. -/
def ghost (K : Dev nD × Kind → ℕ) (c : Dev nD) : sProp 𝕄 := iprop(records m ρ K ∗ posAll c ∗ kits c)

/-- What device `c`'s body starts from. -/
def start (c : Dev nD) : sProp 𝕄 := iprop((∃ K, ghost m ρ K c) ∗ creds c ∗ levAts L lv)

/-- Before the body: that, and the gather buffer holding anything. -/
def Φ₀ (c : Dev nD) : sProp 𝕄 := iprop(start m ρ c ∗ ∃ f, gxAll c f)
/-- After it: the gather buffer again, and every cell closed. -/
def Φ₁ (c : Dev nD) : sProp 𝕄 := iprop((∃ f, gxAll c f) ∗ doneAll c)

/-- The launch's data: the operands stay, the output becomes the eight stores; all that is owed is paid. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The launch's one point. -/
abbrev t₀ : Fin cfg0.N := t0_0

theorem before_x (c : Dev nD) (d) : (dats m ρ 0 c).before (0 : Fin 3) t₀ d = xstg m ρ c := by
  unfold Dat.before; rw [if_pos (fetch0_0 t₀)]; rfl
theorem before_w (c : Dev nD) (d) : (dats m ρ 0 c).before (1 : Fin 3) t₀ d = wstg m ρ c := by
  unfold Dat.before; rw [if_pos (fetch0_1 t₀)]; rfl

end Cert.AllGather

end
-- ==== Proof.Body.lean ====
/-
# The body

The parts in program order, from what a device starts from to what it leaves.
-/
module

public import proofs.«01_k».proof.Proof.State

@[expose] public section

noncomputable section

namespace Cert.AllGather

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Kind → ℕ) (c : Dev nD)

/-- What the body is entered with, the names of the cells' invariants fixed. -/
def bodyPre : sProp 𝕄 :=
  iprop((env m ρ K ∗ posAll c ∗ kits c ∗ creds c ∗ ∃ f, gxAll c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it leaves. -/
def bodyPost : sProp 𝕄 :=
  iprop(Φ₁ c ∗ (dats m ρ 0 c).owesAt () t₀.succ
    ∗ stg c cc0_stg0_0 (xstg m ρ c) ∗ stg c cc0_stg1_0 (wstg m ρ c) ∗ stg c cc0_stg2_0 (outAt m ρ c))

theorem owing_start : (dats m ρ 0 c).owesAt () t₀.castSucc ⊢ (owing c (owedL c) : sProp 𝕄) := by
  unfold Dat.owesAt Pipeline.owesWithin owing
  rw [show (dats m ρ 0 c).owed t₀.castSucc = tal (owedL c) from rfl]
  iintro ⟨%W, -, HO⟩
  iexists W; iexact HO
theorem owing_end : (owing c [] : sProp 𝕄) ⊢ (dats m ρ 0 c).owesAt () t₀.succ := by
  unfold Dat.owesAt Pipeline.owesWithin owing
  rw [show (dats m ρ 0 c).owed t₀.succ = tal [] from rfl]
  iintro ⟨%W, HO⟩
  iexists W
  isplitr; · ipureintro; exact fun _ _ => Or.inl trivial
  iexact HO

theorem out_end : outPts c (pieces m ρ c) ⊢ (stg c cc0_stg2_0 (outAt m ρ c) : sProp 𝕄) := by
  unfold outPts
  iintro ⟨%f, H⟩
  iexists _
  isplitr; · ipureintro; exact writes_eq m ρ c f
  iexact H

theorem slots_intro (Φ : Fin 8 → sProp 𝕄) : iprop(Φ 0 ∗ Φ 1 ∗ Φ 2 ∗ Φ 3 ∗ Φ 4 ∗ Φ 5 ∗ Φ 6 ∗ Φ 7) ⊢ bigSep Finset.univ Φ :=
  Entails.of_eq (bigSep_slots Φ).symm

set_option maxHeartbeats 1600000 in
/-- The body runs from the one to the other. -/
theorem sound_body (Kt : PUnit → sProp 𝕄) :
    iprop(bodyPre m ρ K c ∗ (bodyPost m ρ c -∗ Kt ⟨⟩))
      ⊢ run c (cc0_body xM (Memref.isWhole_whole _) wM (Memref.isWhole_whole _) oM (Memref.isWhole_whole _) gxM (Memref.isWhole_whole _)
          cc0_scratch1 cc0_scratch2) Kt := by
  simp only [cc0_body_eq_skeleton]; unfold cc0_body_skel
  simp only [Prog.lift, Prog.bind_op, Prog.bind_ret, Prog.pure_eq_ret, run]
  rw [wp_bind]
  refine part1 c fun v2 v13 v24 v35 => ?_
  dsimp only
  unfold bodyPre posAll kits creds
  simp only [bigSep_slots]
  iintro ⟨⟨⟨#He, ⟨HaB, ⟨HaS0, HaS1, HaS2, HaS3, HaS4, HaS5, HaS6, HaS7⟩, HaR0, HaR1, HaR2, HaR3, HaR4, HaR5, HaR6, HaR7⟩,
      ⟨HtL, HtR, Hk0, Hk1, Hk2, Hk3, Hk4, Hk5, Hk6, Hk7⟩, ⟨HcB, HcR0, HcR1, HcR2, HcR3, HcR4, HcR5, HcR6, HcR7⟩, ⟨%f0, Hgx⟩⟩,
    Ho, ⟨%d0, %g0, %hg0, Hx⟩, ⟨%d1, %g1, %hg1, Hw⟩, ⟨%d2, %g2, %hg2, Hout⟩⟩, Hk⟩
  rw [before_x] at hg0; subst hg0
  rw [before_w] at hg1; subst hg1
  ihave HO := (owing_start m ρ c) $$ Ho
  icases (gx_open c f0) $$ Hgx with ⟨Hown, HbL, HbR⟩
  icases (x_open m ρ c).1 $$ Hx with ⟨Hx, ⟨Hs0, Hs2, Hs3⟩, Hs7, Hs6, Hs4⟩
  rw [wp_bind]
  iapply (part2 m ρ K c v13 v24) $$ [HO HtL HtR HbL HbR HaB HcB Hk0 Hk4 Hs0 Hs4 Hx Hw]
  · isplitr; · iexact He
    isplitl [HO]; · iexact HO
    isplitl [HtL]; · iexact HtL
    isplitl [HtR]; · iexact HtR
    isplitl [HbL]; · iexact HbL
    isplitl [HbR]; · iexact HbR
    isplitl [HaB]; · iexact HaB
    isplitl [HcB]; · iexact HcB
    isplitl [Hk0]; · iexact Hk0
    isplitl [Hk4]; · iexact Hk4
    isplitl [Hs0]; · iexact Hs0
    isplitl [Hs4]; · iexact Hs4
    isplitl [Hx]; · iexact Hx
    iexact Hw
  iintro ⟨HO, HdB, HcS0, HcS4, Hl1, Hl2, Hl3, Hl5, Hl6, Hl7, Hx, Hw⟩
  try dsimp only
  rw [wp_bind]
  iapply (part3 m ρ K c v2 v13 v24) $$ [HO HaR0 HcR0 Hout]
  · isplitr; · iexact He
    isplitl [HO]; · iexact HO
    isplitl [HaR0]; · iexact HaR0
    isplitl [HcR0]; · iexact HcR0
    unfold outPts; iexists g2; iexact Hout
  iintro ⟨HO, HdR0, Hp0, Hout⟩
  try dsimp only
  icases (recv0_open m ρ c).1 $$ Hp0 with ⟨Hg0, Hs1, Hz0⟩
  rw [wp_bind]
  iapply (part4 m ρ K c v13 v24) $$ [HO Hk1 Hs1 Hl1 Hk2 Hs2 Hl2 Hk3 Hs3 Hl3 HaR4 HcR4]
  · isplitr; · iexact He
    isplitl [HO]; · iexact HO
    isplitl [Hk1 Hs1 Hl1]
    · isplitl [Hk1]; · iexact Hk1
      isplitl [Hs1]; · iexact Hs1
      iexact Hl1
    isplitl [Hk2 Hs2 Hl2]
    · isplitl [Hk2]; · iexact Hk2
      isplitl [Hs2]; · iexact Hs2
      iexact Hl2
    isplitl [Hk3 Hs3 Hl3]
    · isplitl [Hk3]; · iexact Hk3
      isplitl [Hs3]; · iexact Hs3
      iexact Hl3
    isplitl [HaR4]; · iexact HaR4
    iexact HcR4
  iintro ⟨HO, HcS1, HcS2, HcS3, HdR4, Hp4⟩
  try dsimp only
  icases (recv4_open m ρ c).1 $$ Hp4 with ⟨Hg4, Hz4, Hs5⟩
  rw [wp_bind]
  iapply (part5 m ρ K c v13) $$ [HO Hk5 Hs5 Hl5 Hk6 Hs6 Hl6 Hk7 Hs7 Hl7 Hg0 Hw]
  · isplitr; · iexact He
    isplitl [HO]; · iexact HO
    isplitl [Hk5 Hs5 Hl5]
    · isplitl [Hk5]; · iexact Hk5
      isplitl [Hs5]; · iexact Hs5
      iexact Hl5
    isplitl [Hk6 Hs6 Hl6]
    · isplitl [Hk6]; · iexact Hk6
      isplitl [Hs6]; · iexact Hs6
      iexact Hl6
    isplitl [Hk7 Hs7 Hl7]
    · isplitl [Hk7]; · iexact Hk7
      isplitl [Hs7]; · iexact Hs7
      iexact Hl7
    isplitl [Hg0]; · iexact Hg0
    iexact Hw
  iintro ⟨HO, HcS5, HcS6, HcS7, Hg0, Hw⟩
  try dsimp only
  rw [wp_bind]
  iapply (part6 m ρ c v13 v24 _) $$ [Hout Hg4 Hw]
  · isplitl [Hout]; · iexact Hout
    isplitl [Hg4]; · iexact Hg4
    iexact Hw
  iintro ⟨Hout, Hg4, Hw⟩
  try dsimp only
  rw [wp_bind]
  iapply (part7 m ρ K c v13 v35 _) $$ [HO Hout HaR1 HcR1 HaR5 HcR5 Hw]
  · isplitr; · iexact He
    isplitl [HO]; · iexact HO
    isplitl [Hout]; · iexact Hout
    isplitl [HaR1 HcR1]
    · isplitl [HaR1]; · iexact HaR1
      iexact HcR1
    isplitl [HaR5 HcR5]
    · isplitl [HaR5]; · iexact HaR5
      iexact HcR5
    iexact Hw
  iintro ⟨HO, Hout, HdR1, HdR5, Hg1, Hw⟩
  try dsimp only
  rw [wp_bind]
  iapply (part8 m ρ K c v13 v35 _) $$ [HO Hout HaR2 HcR2 Hw]
  · isplitr; · iexact He
    isplitl [HO]; · iexact HO
    isplitl [Hout]; · iexact Hout
    isplitl [HaR2 HcR2]
    · isplitl [HaR2]; · iexact HaR2
      iexact HcR2
    iexact Hw
  iintro ⟨HO, Hout, HdR2, Hp2, Hw⟩
  try dsimp only
  rw [wp_bind]
  iapply (part9 m ρ K c v13 v24 _ _) $$ [HO Hout HaR6 HcR6 Hw]
  · isplitr; · iexact He
    isplitl [HO]; · iexact HO
    isplitl [Hout]; · iexact Hout
    isplitl [HaR6 HcR6]
    · isplitl [HaR6]; · iexact HaR6
      iexact HcR6
    iexact Hw
  iintro ⟨HO, Hout, HdR6, Hp6, Hw⟩
  try dsimp only
  rw [wp_bind]
  iapply (part10 m ρ K c v13 _ _) $$ [HO Hout HaR3 HcR3 Hw]
  · isplitr; · iexact He
    isplitl [HO]; · iexact HO
    isplitl [Hout]; · iexact Hout
    isplitl [HaR3 HcR3]
    · isplitl [HaR3]; · iexact HaR3
      iexact HcR3
    iexact Hw
  iintro ⟨HO, Hout, HdR3, Hp3, Hw⟩
  try dsimp only
  rw [wp_bind]
  iapply (part11 m ρ K c v24 _) $$ [HO Hout HaR7 HcR7 HaS0 HcS0 Hw]
  · isplitr; · iexact He
    isplitl [HO]; · iexact HO
    isplitl [Hout]; · iexact Hout
    isplitl [HaR7 HcR7]
    · isplitl [HaR7]; · iexact HaR7
      iexact HcR7
    isplitl [HaS0 HcS0]
    · isplitl [HaS0]; · iexact HaS0
      iexact HcS0
    iexact Hw
  iintro ⟨HO, Hout, HdR7, Hp7, ⟨HdS0, Hs0⟩, Hw⟩
  try dsimp only
  rw [wp_bind]
  iapply (part12 m ρ K c) $$ [HO HaS1 HcS1 HaS2 HcS2 HaS3 HcS3 HaS4 HcS4]
  · isplitr; · iexact He
    isplitl [HO]; · iexact HO
    isplitl [HaS1 HcS1]
    · isplitl [HaS1]; · iexact HaS1
      iexact HcS1
    isplitl [HaS2 HcS2]
    · isplitl [HaS2]; · iexact HaS2
      iexact HcS2
    isplitl [HaS3 HcS3]
    · isplitl [HaS3]; · iexact HaS3
      iexact HcS3
    isplitl [HaS4]; · iexact HaS4
    iexact HcS4
  iintro ⟨HO, ⟨HdS1, Hs1⟩, ⟨HdS2, Hs2⟩, ⟨HdS3, Hs3⟩, HdS4, Hs4⟩
  try dsimp only
  unfold env
  icases He with ⟨#HR, #Hlev⟩
  iapply (wp_wait_send m ρ K c 5 rfl [] (fun _ h => nomatch h) rfl) $$ [HO HaS5 HcS5]
  · isplitr; · iexact HR
    isplitr; · iexact Hlev
    isplitl [HO]; · iexact HO
    isplitl [HaS5] <;> iassumption
  iintro ⟨HO, HdS5, Hs5⟩
  iapply (wp_wait_send m ρ K c 6 rfl [] (fun _ h => nomatch h) rfl) $$ [HO HaS6 HcS6]
  · isplitr; · iexact HR
    isplitr; · iexact Hlev
    isplitl [HO]; · iexact HO
    isplitl [HaS6] <;> iassumption
  iintro ⟨HO, HdS6, Hs6⟩
  iapply (wp_wait_send m ρ K c 7 rfl [] (fun _ h => nomatch h) rfl) $$ [HO HaS7 HcS7]
  · isplitr; · iexact HR
    isplitr; · iexact Hlev
    isplitl [HO]; · iexact HO
    isplitl [HaS7] <;> iassumption
  iintro ⟨HO, HdS7, Hs7⟩
  rw [wp_ret]; imodintro
  -- the buffers whole again
  ihave Hp0 := (recv0_open m ρ c).2 $$ [Hg0 Hs1 Hz0]
  · isplitl [Hg0]; · iexact Hg0
    isplitl [Hs1] <;> iassumption
  ihave Hp4 := (recv4_open m ρ c).2 $$ [Hg4 Hz4 Hs5]
  · isplitl [Hg4]; · iexact Hg4
    isplitl [Hz4] <;> iassumption
  icases (across_join m ρ c).2 $$ Hg1 with ⟨Hp1, Hp5⟩
  ihave Hp2 := (Entails.of_eq (recvPay_at m ρ 2 c (left c) 272 208 rfl rfl rfl).symm) $$ Hp2
  ihave Hp3 := (Entails.of_eq (recvPay_at m ρ 3 c (left c) 480 32 rfl rfl rfl).symm) $$ Hp3
  ihave Hp6 := (Entails.of_eq (recvPay_at m ρ 6 c (right c) 32 208 rfl rfl rfl).symm) $$ Hp6
  ihave Hp7 := (Entails.of_eq (recvPay_at m ρ 7 c (right c) 0 32 rfl rfl rfl).symm) $$ Hp7
  ihave Hrs := (slots_intro fun s => recvPay m ρ s c) $$ [Hp0 Hp1 Hp2 Hp3 Hp4 Hp5 Hp6 Hp7]
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  ihave Hgx := (gx_close m ρ c f0) $$ [Hown Hrs]
  · isplitl [Hown]; · iexact Hown
    iexact Hrs
  ihave Hx := (x_open m ρ c).2 $$ [Hx Hs0 Hs2 Hs3 Hs7 Hs6 Hs4]
  · isplitl [Hx]; · iexact Hx
    isplitl [Hs0 Hs2 Hs3]
    · isplitl [Hs0]; · iexact Hs0
      isplitl [Hs2]; · iexact Hs2
      iexact Hs3
    isplitl [Hs7]; · iexact Hs7
    isplitl [Hs6]; · iexact Hs6
    iexact Hs4
  ihave HdS := (slots_intro fun s => done c (some (false, s))) $$ [HdS0 HdS1 HdS2 HdS3 HdS4 HdS5 HdS6 HdS7]
  · isplitl [HdS0]; · iexact HdS0
    isplitl [HdS1]; · iexact HdS1
    isplitl [HdS2]; · iexact HdS2
    isplitl [HdS3]; · iexact HdS3
    isplitl [HdS4]; · iexact HdS4
    isplitl [HdS5]; · iexact HdS5
    isplitl [HdS6]; · iexact HdS6
    iexact HdS7
  ihave HdR := (slots_intro fun s => done c (some (true, s))) $$ [HdR0 HdR1 HdR2 HdR3 HdR4 HdR5 HdR6 HdR7]
  · isplitl [HdR0]; · iexact HdR0
    isplitl [HdR1]; · iexact HdR1
    isplitl [HdR2]; · iexact HdR2
    isplitl [HdR3]; · iexact HdR3
    isplitl [HdR4]; · iexact HdR4
    isplitl [HdR5]; · iexact HdR5
    isplitl [HdR6]; · iexact HdR6
    iexact HdR7
  iapply Hk
  unfold bodyPost Φ₁ doneAll
  isplitl [Hgx HdB HdS HdR]
  · isplitl [Hgx]; · iexact Hgx
    isplitl [HdB]; · iexact HdB
    isplitl [HdS] <;> iassumption
  isplitl [HO]; · iapply (owing_end m ρ c); iexact HO
  isplitl [Hx]
  · iexists _; isplitr; · (ipureintro; rfl)
    iexact Hx
  isplitl [Hw]
  · iexists _; isplitr; · (ipureintro; rfl)
    iexact Hw
  iapply (out_end m ρ c); iexact Hout

end Body

/-- What the pipeline enters the body with. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- What the pipeline asks of the body on device `c`. -/
theorem body_obligation (c : Dev nD) : BodyObligation (dats (F := F) m ρ 0 c) (defs₀ (F := F)) 𝒱₀ () Set.univ := fun t => by
  rw [show t = t₀ from fin_N0 t]
  rw [bigSep_W0, bigSep_W0]
  simp only [owns_whole_eq]
  have hp : (defs₀ (F := F)) Proc.tc 0 (t₀, cfg0.slots t₀) = cc0_body xM (Memref.isWhole_whole _) wM (Memref.isWhole_whole _)
      oM (Memref.isWhole_whole _) gxM (Memref.isWhole_whole _) cc0_scratch1 cc0_scratch2 := rfl
  have e0 : (dats m ρ 0 c).after (0 : Fin 3) t₀ = xstg m ρ c := rfl
  have e1 : (dats m ρ 0 c).after (1 : Fin 3) t₀ = wstg m ρ c := rfl
  have e2 : (dats m ρ 0 c).after (2 : Fin 3) t₀ = outAt m ρ c := rfl
  have e3 : (dats m ρ 0 c).Φ t₀.succ = Φ₁ c := rfl
  rw [e0, e1, e2, e3]
  show bodyPre' m ρ c ⊢ wp frame (wpE (defs₀ (F := F)) 𝒱₀ c none) Set.univ ((defs₀ (F := F)) Proc.tc 0 (t₀, cfg0.slots t₀)) (fun _ => bodyPost m ρ c)
  rw [hp]
  unfold bodyPre'
  unfold Φ₀ start ghost
  iintro ⟨⟨⟨⟨%K, HR, Hpos, Hkit⟩, Hcr, Hlev⟩, Hgx⟩, Ho, Hx, Hw, Hout⟩
  iapply (sound_body m ρ K c fun _ => bodyPost m ρ c)
  unfold bodyPre env
  isplitr []
  · isplitl [HR Hlev Hpos Hkit Hcr Hgx]
    · isplitl [HR Hlev]; · isplitl [HR] <;> iassumption
      isplitl [Hpos]; · iexact Hpos
      isplitl [Hkit]; · iexact Hkit
      isplitl [Hcr] <;> iassumption
    isplitl [Ho]; · iexact Ho
    isplitl [Hx]; · iexact Hx
    isplitl [Hw] <;> iassumption
  · iintro H; iexact H

end Cert.AllGather

end
-- ==== Proof.Deal.lean ====
/-
# What the launch deals out

The cells and the duty tokens of the protocol, as the launch makes them: every device gets the tokens of its own cells, then the
tokens go round the ring to the devices that pay the duties. The semaphores' counters become the cells' invariants, and what the
devices owe one another becomes each device's right to wait.
-/
module

public import proofs.«01_k».proof.Proof.State
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.AllGather

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over the kinds of cells -/

/-- A family over the transfer cells: the send cells', then the receive cells'. -/
theorem bigSep_dma {M : Type} [URA M] (Φ : Bool × Fin 8 → sProp M) :
    bigSep Finset.univ Φ = iprop((bigSep Finset.univ fun s => Φ (false, s)) ∗ bigSep Finset.univ fun s => Φ (true, s)) := by
  rw [bigSep_univ_prod, bigSep_univ_eq_bigSepL [false, true] (by decide) (by decide), bigSepL_cons_cons, bigSepL_singleton]
  rfl

/-- A family over all kinds: the barrier's, and the transfer cells'. -/
theorem bigSep_kind' {M : Type} [URA M] (Φ : Kind → sProp M) :
    bigSep Finset.univ Φ = iprop(Φ none ∗ bigSep Finset.univ fun p => Φ (some p)) := by
  rw [bigSep_univ_at Φ none, show (Finset.univ : Finset Kind).erase none = Finset.univ.map Function.Embedding.some from by decide, bigSep_map]
  rfl

/-- The same, the transfer cells' in two. -/
theorem bigSep_kind {M : Type} [URA M] (Φ : Kind → sProp M) :
    bigSep Finset.univ Φ = iprop(Φ none ∗ (bigSep Finset.univ fun s => Φ (some (false, s))) ∗ bigSep Finset.univ fun s => Φ (some (true, s))) := by
  rw [bigSep_kind', bigSep_dma]

/-! ## Cells and tokens -/

/-- Every protocol cell of every device. -/
def ringCells : Finset (GSem nD τ sig) := Finset.univ.map ⟨kcell, kcell_injective⟩

/-- The tokens of a device's own cells: its barrier's second duty, and each cell's first. -/
abbrev tokOf (cj : Dev nD × Option Kind) : GSem nD τ sig × ℕ × Bool := (kcell (cj.1, cj.2.elim none id), 0, cj.2.isNone)

theorem tokOf_injective : Function.Injective tokOf := by
  rintro ⟨c, j⟩ ⟨c', j'⟩ h
  have h1 := kcell_injective (congrArg (fun x : GSem nD τ sig × ℕ × Bool => x.1) h)
  have h2 : j.isNone = j'.isNone := congrArg (fun x : GSem nD τ sig × ℕ × Bool => x.2.2) h
  obtain ⟨rfl, h3⟩ := Prod.mk.inj h1
  cases j <;> cases j' <;> simp_all

/-- Every token of the protocol. -/
def ringToks : Finset (GSem nD τ sig × ℕ × Bool) := Finset.univ.map ⟨tokOf, tokOf_injective⟩

/-- The ghost state at launch: the pipeline's and the protocol's. -/
def u₀ : UU := (initOf (Pipeline.cells cfgs cellOf_inj) (Pipeline.launchToks cfgs cellOf_inj), initOf ringCells ringToks)

/-- The tokens of device `c`'s own cells. -/
def toks (c : Dev nD) : sProp 𝕄 :=
  iprop(dutyTok ER (kcell (c, none)) 0 true ∗ bigSep Finset.univ fun k : Kind => dutyTok ER (kcell (c, k)) 0 false)

/-- What the launch gives device `c`: its cells' states, its positions, and its own cells' tokens. -/
def G (c : Dev nD) : sProp 𝕄 :=
  iprop((bigSep Finset.univ fun k : Kind => roundState ER (Rd m ρ) (kcell (c, k)) 0)
    ∗ (bigSep Finset.univ fun k : Kind => iprop(pos c k ∗ reached ER (kcell (c, k)) 0)) ∗ toks c)

/-- What device `c` has once the invariants are made and the tokens dealt. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Kind => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_at _ (none : Option Kind),
      show (Finset.univ : Finset (Option Kind)).erase none = Finset.univ.map Function.Embedding.some from by decide, bigSep_map]
    rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters become invariants -/

/-- The barrier's is the one counter that outlives the kernel. -/
theorem unscopedSems0_eq (c : Dev nD) : (unscopedSems0 c : sProp 𝕄) = done c none := by
  unfold unscopedSems0; rw [bigSep_eq_bigSepL_of_eq [SemLoc.reg barS] (by decide) (by decide)]; rfl

/-- A device's own counters and its barrier's are those of its seventeen cells. -/
theorem sems0_eq (c : Dev nD) :
    (bigSep Finset.univ (fun k : Kind => done (F := F) c k) : sProp 𝕄) = iprop(unscopedSems0 c ∗ Pipeline.ownSems0 (Ix := Unit) (Name := ℕ) (U := UU) (Lvl := ℕ) (Val := Elt F) (τ := τ) osem c) := by
  rw [bigSep_kind', unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Kind => iprop(∃ κ : ℕ, cellInv ER (Rd m ρ) κ (kcell (c, k))))
          ∗ (bigSep Finset.univ fun k : Kind => iprop(pos c k ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Kind => done c k) ∗ bigSep Finset.univ fun k : Kind => roundState ER (Rd m ρ) (kcell (c, k)) 0)
      ⊢ (|={Set.univ}=> bigSep Finset.univ fun k : Kind => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go round -/

/-- A receive cell's token goes to the device whose transfer lands there, a barrier's two tokens to the two neighbours. -/
theorem toks_around : (bigSep Finset.univ fun c : Dev nD => (toks c : sProp 𝕄)) ⊢ bigSep Finset.univ fun c : Dev nD => kits c := by
  have hrecv : (bigSep Finset.univ fun c : Dev nD => bigSep Finset.univ fun s : Fin 8 => (dutyTok ER (kcell (c, some (true, s))) 0 false : sProp 𝕄))
      = bigSep Finset.univ fun c : Dev nD => bigSep Finset.univ fun s : Fin 8 => dutyTok ER (kcell (tgt s c, some (true, s))) 0 false := by
    rw [BI.bigSep_univ_comm, BI.bigSep_univ_comm (fun (c : Dev nD) (s : Fin 8) => (dutyTok ER (kcell (tgt s c, some (true, s))) 0 false : sProp 𝕄))]
    exact bigSep_congr fun s _ => bigSep_univ_equiv (tgtEquiv s) _
  unfold toks kits sendKit
  simp only [bigSep_kind, bigSep_sep']
  rw [hrecv, bigSep_univ_equiv ring (fun c : Dev nD => (dutyTok ER (kcell (c, none)) 0 false : sProp 𝕄)),
    bigSep_univ_equiv ring.symm (fun c : Dev nD => (dutyTok ER (kcell (c, none)) 0 true : sProp 𝕄))]
  iintro ⟨H1, H2, H3, H4⟩
  isplitl [H1]; · iexact H1
  isplitl [H2]; · iexact H2
  isplitl [H3]; · iexact H3
  iexact H4

theorem ghost_intro (K : Dev nD × Kind → ℕ) (c : Dev nD) : iprop(records m ρ K ∗ (posAll c ∗ kits c)) ⊢ G' m ρ c := by
  unfold G' ghost
  iintro H
  iexists K; iexact H

theorem regroup :
    (bigSep Finset.univ fun c : Dev nD => iprop((bigSep Finset.univ fun k : Kind => iprop(∃ κ : ℕ, cellInv ER (Rd m ρ) κ (kcell (c, k))))
          ∗ (bigSep Finset.univ fun k : Kind => iprop(pos c k ∗ reached ER (kcell (c, k)) 0)) ∗ toks c) : sProp 𝕄)
      ⊢ bigSep Finset.univ (G' m ρ) := by
  rw [bigSep_sep', bigSep_sep', ← bigSep_univ_prod (fun ck : Dev nD × Kind => iprop(∃ κ : ℕ, cellInv ER (Rd m ρ) κ (kcell ck))),
    bigSep_congr (s := Finset.univ) (fun (c : Dev nD) _ => bigSep_sep' Finset.univ (fun k : Kind => (pos c k : sProp 𝕄)) (fun k => reached ER (kcell (c, k)) 0)),
    bigSep_sep', ← bigSep_univ_prod (fun ck : Dev nD × Kind => (reached ER (kcell ck) 0 : sProp 𝕄))]
  iintro ⟨HI, ⟨Hat, #HR⟩, Htok⟩
  ihave HK := (BI.bigSep_exists_pi Finset.univ (fun (ck : Dev nD × Kind) (κ : ℕ) => (cellInv ER (Rd m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Kind => (pos c k : sProp 𝕄)) kits).symm).trans
      (bigSep_mono fun c _ => show _ ⊢ iprop(posAll c ∗ kits c) from Entails.of_eq (by unfold posAll; rw [bigSep_kind])))
    isplitl [Hat]; · iexact Hat
    iexact Htk

/-- From every device's counters and its share of the launch's ghost state, every device's protocol state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The rights to wait -/

theorem kcell_eq_iff {a b : Dev nD × Kind} : kcell a = kcell b ↔ a = b := kcell_injective.eq_iff

/-- What a list of dues adds up to at one cell. -/
theorem tal_at (l : List ((Dev nD × Kind) × ℕ)) (ck : Dev nD × Kind) :
    tal l (kcell ck) () = (l.map fun p => if ck = p.1 then p.2 else 0).sum := by
  induction l with
  | nil => rfl
  | cons p l ih =>
    show tal l (kcell ck) () + tallyAt (kcell p.1) () p.2 (kcell ck) () = _
    rw [ih, tallyAt_apply, List.map_cons, List.sum_cons, Nat.add_comm]
    simp only [kcell_eq_iff, and_true]

/-- The barrier of `c` is owed one unit by each neighbour. -/
theorem owed_bar (d c : Dev nD) : O₀ d (kcell (c, none)) () = (if d = right c then 1 else 0) + (if d = left c then 1 else 0) := by
  have h1 : (c = left d) ↔ d = right c := ⟨fun h => h ▸ (right_left d).symm, fun h => h ▸ (left_right c).symm⟩
  have h2 : (c = right d) ↔ d = left c := ⟨fun h => h ▸ (left_right d).symm, fun h => h ▸ (right_left c).symm⟩
  unfold O₀
  rw [tal_at]
  simp [owedL, h1, h2]

/-- The receive cell of slot `s` on `c` is owed the slot's credit by the slot's sender. -/
theorem owed_recv (d c : Dev nD) (s : Fin 8) : O₀ d (kcell (c, some (true, s))) () = if d = src s c then N s else 0 := by
  have h1 (s : Fin 8) : (c = tgt s d) ↔ d = src s c := ⟨fun h => h ▸ (src_tgt s d).symm, fun h => h ▸ (tgt_src s c).symm⟩
  unfold O₀
  rw [tal_at]
  fin_cases s <;> simp [owedL, h1]

theorem launch_bar (c : Dev nD) :
    tallyOn (kcell (c, none)) (launchCredit (Pipeline.owing O₀) 0 (kcell (c, none))) = (tallyAt (kcell (c, none)) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (right c) fun _ => 1, Finset.sum_ite_eq' Finset.univ (left c) fun _ => 1, if_pos (Finset.mem_univ _), if_pos (Finset.mem_univ _)]

theorem launch_recv (c : Dev nD) (s : Fin 8) :
    tallyOn (kcell (c, some (true, s))) (launchCredit (Pipeline.owing O₀) 0 (kcell (c, some (true, s))))
      = (tallyAt (kcell (c, some (true, s))) () (N s) : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (src s c) fun _ => N s, if_pos (Finset.mem_univ _)]

/-- The receive cells' semaphores. -/
def recvSem : Fin 8 ↪ SemLoc sig := ⟨fun s => csem (some (true, s)), fun s s' h => congrArg Prod.snd (Option.some.inj (csem_injective h))⟩

theorem launch_creds (c : Dev nD) : (Pipeline.launchCred O₀ c : sProp 𝕄) ⊢ creds c := by
  unfold Pipeline.launchCred creds
  rw [bigSep_univ_at _ (SemLoc.reg barS)]
  refine BI.sep_mono (Entails.of_eq (congrArg cred (launch_bar c))) ?_
  refine (bigSep_subset (t := Finset.univ.map recvSem) ?_).trans ?_
  · intro sm h
    obtain ⟨s, -, rfl⟩ := Finset.mem_map.mp h
    exact Finset.mem_erase.mpr ⟨fun h => Option.some_ne_none _ (csem_injective (show csem (some (true, s)) = csem none from h)), Finset.mem_univ _⟩
  · rw [bigSep_map]
    exact bigSep_mono fun s _ => Entails.of_eq (congrArg cred (launch_recv c s))

end Cert.AllGather

end
-- ==== Proof.Launch.lean ====
/-
# The run of the whole kernel

Every execution of the four devices ends, with every counter at zero, the operands as they were and each device's result at the
eight stores' contents.
-/
module

public import proofs.«01_k».proof.Proof.Body
public import proofs.«01_k».proof.Proof.Deal

@[expose] public section

noncomputable section

namespace Cert.AllGather

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ doneAll
  rw [← bigSep_kind (fun k => done (F := F) c k), sems0_eq]
  iintro ⟨Hr, Hu, Ho⟩
  isplitl [Hu]; · iexact Hu
  isplitl [Ho]; · iexact Ho
  iexact Hr

/-- Every due of a device is to a cell of positive level. -/
theorem owedL_pos (c : Dev nD) : ∀ p ∈ owedL c, 0 < lvK p.1.2 := by
  intro p hp
  have : p.1.2 = none ∨ ∃ s, p.1.2 = some (true, s) := by
    simp only [owedL, List.mem_cons, List.mem_map] at hp
    rcases hp with rfl | rfl | ⟨s, -, rfl⟩
    · exact Or.inl rfl
    · exact Or.inl rfl
    · exact Or.inr ⟨s, rfl⟩
  rcases this with h | ⟨s, h⟩ <;> rw [h]
  · exact Nat.one_pos
  · exact (by decide : ∀ s : Fin 8, 0 < lvK (some (true, s))) s

theorem waits (c : Dev nD) : (levAts L lv : sProp 𝕄) ⊢ Pipeline.cellsWaits cfgs (dats m ρ) () 0 c :=
  Pipeline.cellsWaits_intro cfgs (dats m ρ) () 0 c fun w s t => by
    have hk : kindOf (.dma ((cfg0.win w).sem s)) = none := by fin_cases w <;> fin_cases s <;> decide
    rcases t with ⟨_ | _, ht⟩
    · exact mayWait_of c _ (owedL c) (by rw [hk]; exact owedL_pos c)
    · exact mayWait_of c _ [] (by simp)

/-! ## The run -/

/-- What window `w`'s array on device `c` holds at the end. -/
def finalA (c : Dev nD) (w : Fin cfg0.W) : Buf (Elt F) ((cfg0.win w).arr.view.loc (c : Thread nD τ)) := (dats m ρ 0 c).arrAt w cfg0.N

/-- Every device's arrays at those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every execution of the four devices ends, with each device's arrays
    at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.AllGather

end
-- ==== Proof.Value.lean ====
/-
# What the output array holds, over the extended reals

Each of the eight stored blocks is the activation of a product: rows of some device's operand with this device's weight columns. Read
at its place in the output, every one of them is the same function of the place, so the output is that function.
-/
module

public import proofs.«01_k».proof.Proof.Launch
public import Idealize.ShloMosaic.Lib.Pointwise
public import Idealize.ShloMosaic.Lib.ViewIndex
public import Idealize.ShloMosaic.Lib.Layout

@[expose] public section

noncomputable section

namespace Cert.AllGather

open Cert.KernelIdeal Cert.KernelIdeal.Gen
open Idealize.ShloMosaic
open Idealize.ShloMosaic.TcCoe

/-- The activation of one number: the gelu with a hyperbolic tangent. -/
def act (y : EReal) : EReal :=
  (Ideal.ofBits FTy.f32 0x3F000000#32 * y) *
    (1 + Ideal.tanh (Ideal.ofBits FTy.f32 0x3F4C422A#32 * (y + ((Ideal.ofBits FTy.f32 0x3D372713#32 * y) * y) * y)))

/-! ## One stored block, element by element -/

section Blocks

variable (w : Vec Ideal S2048x512 .f32) (j : Fin 512)

theorem pay3_at (v : Vec Ideal S512x2048 .f32) (r : Fin 512) :
    k0_pay3 (F := Ideal) (k0_pay1 v) (k0_pay2 w) (ix2 r j) = act (∑ k : Fin 2048, v (ix2 r k) * w (ix2 k j)) := by
  pointwise [k0_pay3, k0_pay1, k0_pay2, act]

theorem pay5_at (v : Vec Ideal S1x272x2048 .f32) (r : Fin 272) :
    k0_pay5 (F := Ideal) (k0_pay4 v w) (ix2 r j) = act (∑ k : Fin 2048, v (ix3 0 r k) * w (ix2 k j)) := by
  pointwise [k0_pay5, k0_pay4, act]

theorem pay6_at (v : Vec Ideal S1x272x2048 .f32) (r : Fin 272) :
    k0_pay6 (F := Ideal) v w (ix2 r j) = act (∑ k : Fin 2048, v (ix3 0 r k) * w (ix2 k j)) := by
  pointwise [k0_pay6, act]

theorem pay10_at (v : Vec Ideal S1x512x2048 .f32) (r : Fin 512) :
    k0_pay10 (F := Ideal) (k0_pay8 v w) (k0_pay9 v w) one32 (ix2 r j) = act (∑ k : Fin 2048, v (ix3 0 r k) * w (ix2 k j)) := by
  pointwise [k0_pay10, k0_pay8, k0_pay9, k0_pay7, one32, act]

theorem pay11_at (v : Vec Ideal S1x208x2048 .f32) (r : Fin 208) :
    k0_pay11 (F := Ideal) v w (ix2 r j) = act (∑ k : Fin 2048, v (ix3 0 r k) * w (ix2 k j)) := by
  pointwise [k0_pay11, act]

theorem pay12_at (v : Vec Ideal S1x208x2048 .f32) (r : Fin 208) :
    k0_pay12 (F := Ideal) v w (ix2 r j) = act (∑ k : Fin 2048, v (ix3 0 r k) * w (ix2 k j)) := by
  pointwise [k0_pay12, act]

theorem pay13_at (v : Vec Ideal S1x32x2048 .f32) (r : Fin 32) :
    k0_pay13 (F := Ideal) v w (ix2 r j) = act (∑ k : Fin 2048, v (ix3 0 r k) * w (ix2 k j)) := by
  pointwise [k0_pay13, act]

theorem pay14_at (v : Vec Ideal S1x32x2048 .f32) (r : Fin 32) :
    k0_pay14 (F := Ideal) v w (ix2 r j) = act (∑ k : Fin 2048, v (ix3 0 r k) * w (ix2 k j)) := by
  pointwise [k0_pay14, act]

end Blocks

/-! ## What the loads read -/

section Loads

variable {F : FTy → Type} [FloatOps F]

variable (m : (ℓ : Loc nD τ sig) → Buf (Elt F) ℓ) (ρ : Dev nD → PrngReg) (c : Dev nD)

/-- A device's rows of the whole operand. -/
abbrev argX : Vec F S512x2048 .f32 := m ((c : Thread nD τ).loc main_arg0)
/-- A device's columns of the weights. -/
abbrev argW : Vec F S2048x512 .f32 := m ((c : Thread nD τ).loc main_arg1)

/-- The staged operand is the device's first argument. -/
theorem xstg_eq : xstg m ρ c = argX m c := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The staged weight columns are the device's second argument. -/
theorem wstg_eq : wstg m ρ c = argW m c := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

theorem xv_eq : xv m ρ c = argX m c := by
  have hz : (![0, 0] : Fin 2 → ℕ) = fun _ => 0 := funext fun a => by fin_cases a <;> rfl
  exact (Memref.readAt_unit_zero (Elt F) cc0_stg0_0 hz inb_S512x2048_S512x2048_0_0 _).trans (xstg_eq m ρ c)

theorem wv_eq : wv m ρ c = argW m c := by
  have hz : (![0, 0] : Fin 2 → ℕ) = fun _ => 0 := funext fun a => by fin_cases a <;> rfl
  exact (Memref.readAt_unit_zero (Elt F) cc0_stg1_0 hz inb_S2048x512_S2048x512_0_0 _).trans (wstg_eq m ρ c)

/-- Row `r` of a block of the gathered operand that starts at row `b` of chunk `o` is row `b + r` of device `o`'s argument. -/
theorem gv_at {n b : ℕ} {off : Fin 3 → ℕ} {inb} (o : Dev nD) (ho : off = ![o.val, b, 0]) (r : Fin n) (hb : b + r.val < 512) (k : Fin 2048) :
    gv m ρ n off inb (ix3 0 r k) = argX m o (ix2 ⟨b + r.val, hb⟩ k) := by
  subst ho
  rw [← xstg_eq m ρ o]
  have he : (Rect.unit (s := S4x512x2048) ![o.val, b, 0] (⟨3, ![1, n, 2048]⟩ : Shape).size inb).emb (ix3 0 r k)
      = ix3 (o : Fin 4) (⟨b + r.val, hb⟩ : Fin 512) k := by
    refine Shape.idx3_ext ?_ ?_ ?_
    · show o.val + 1 * 0 = o.val; omega
    · show b + 1 * r.val = b + r.val; omega
    · show 0 + 1 * k.val = k.val; omega
  show gath m ρ ((Rect.unit (s := S4x512x2048) ![o.val, b, 0] (⟨3, ![1, n, 2048]⟩ : Shape).size inb).emb (ix3 0 r k)) = _
  rw [he]
  rfl

end Loads

/-! ## The output -/

section Output

variable (m : (ℓ : Loc nD τ sig) → Buf (Elt Ideal) ℓ) (ρ : Dev nD → PrngReg) (c : Dev nD)

/-- Device `c`'s block of rows of a whole matrix. -/
abbrev rowsOf (c : Dev nD) (X : Vec Ideal ⟨2, ![2048, 2048]⟩ .f32) : Vec Ideal S512x2048 .f32 := Layout.block ⟨2, ![512, 2048]⟩ ⟨2, ![2048, 2048]⟩ 0 4 c X
/-- Device `c`'s block of columns of a whole matrix. -/
abbrev colsOf (c : Dev nD) (X : Vec Ideal ⟨2, ![2048, 2048]⟩ .f32) : Vec Ideal S2048x512 .f32 := Layout.block ⟨2, ![2048, 512]⟩ ⟨2, ![2048, 2048]⟩ 1 4 c X

/-- Indices of a matrix are equal by coordinates. -/
theorem pair_ext {a b : ℕ} {i j : (⟨2, ![a, b]⟩ : Shape).Idx} (h0 : (i 0).val = (j 0).val) (h1 : (i 1).val = (j 1).val) : i = j := by
  funext t
  fin_cases t
  · exact Fin.ext h0
  · exact Fin.ext h1

/-- The activation of the product of two whole matrices. -/
def full (X W : Vec Ideal ⟨2, ![2048, 2048]⟩ .f32) : Vec Ideal ⟨2, ![2048, 2048]⟩ .f32 :=
  fun i => act (∑ k : Fin 2048, X (ix2 (i 0 : Fin 2048) k) * W (ix2 k (i 1 : Fin 2048)))

variable (X W : Vec Ideal ⟨2, ![2048, 2048]⟩ .f32)

/-- Device `o`'s rows of the whole operand. -/
theorem rows_at (hX : ∀ c, argX m c = rowsOf c X) (o : Dev nD) (r : Fin 512) (k : Fin 2048) (a : Fin 2048)
    (ha : a.val = 512 * o.val + r.val) : argX m o (ix2 r k) = X (ix2 a k) := by
  rw [hX o]
  show X _ = _
  refine congrArg X (pair_ext ?_ ?_)
  · show o.val * 512 + r.val = a.val; omega
  · rfl

/-- Device `c`'s columns of the whole weights. -/
theorem cols_at (hW : ∀ c, argW m c = colsOf c W) (k : Fin 2048) (j : Fin 512) (b : Fin 2048)
    (hb : b.val = 512 * c.val + j.val) : argW m c (ix2 k j) = W (ix2 k b) := by
  rw [hW c]
  show W _ = _
  refine congrArg W (pair_ext ?_ ?_)
  · rfl
  · show c.val * 512 + j.val = b.val; omega

/-- A stored block of `n` rows that computes rows `b, …` of device `o`'s chunk and lies at row `512 * o + b` agrees with the whole. -/
theorem piece_at (hX : ∀ c, argX m c = rowsOf c X)
    (hW : ∀ c, argW m c = colsOf c W) {n b : ℕ} (o : Dev nD) (hn : b + n ≤ 512) {off : Fin 2 → ℕ}
    {inb : ∀ a, off a + (⟨2, ![n, 512]⟩ : Shape).size a ≤ S2048x512.size a} (ho : off = ![512 * o.val + b, 0]) (v : Vec Ideal ⟨2, ![n, 512]⟩ .f32)
    (hv : ∀ (r : Fin n) (j : Fin 512), v (ix2 r j)
      = act (∑ k : Fin 2048, argX m o (ix2 ⟨b + r.val, by omega⟩ k) * argW m c (ix2 k j))) (x : (⟨2, ![n, 512]⟩ : Shape).Idx) :
    v x = colsOf c (full X W)
      ((Rect.unit (s := S2048x512) off (⟨2, ![n, 512]⟩ : Shape).size inb).emb x) := by
  subst ho
  obtain ⟨r, j, rfl⟩ : ∃ (r : Fin n) (j : Fin 512), x = ix2 r j := ⟨x 0, x 1, pair_ext rfl rfl⟩
  have hr := r.isLt
  rw [hv]
  refine congrArg act (Finset.sum_congr rfl fun k _ => ?_)
  refine congrArg₂ (· * ·) (rows_at m X hX o _ k _ ?_) (cols_at m c W hW k j _ ?_)
  · show 512 * o.val + b + 1 * r.val = 512 * o.val + (b + r.val); omega
  · show c.val * 512 + (0 + 1 * j.val) = 512 * c.val + j.val; omega

/-- Every stored block agrees with the whole. -/
theorem pieces_at (hX : ∀ c, argX m c = rowsOf c X)
    (hW : ∀ c, argW m c = colsOf c W) (p : View.Piece (Elt Ideal) S2048x512 .f32)
    (hp : p ∈ pieces m ρ c) (x : p.1.shape.Idx) :
    p.2 x = colsOf c (full X W) (p.1.emb x) := by
  have hw := wv_eq m ρ c
  have blk : ∀ {n b : ℕ} {off : Fin 3 → ℕ} {inb} (o : Dev nD) (_ : off = ![o.val, b, 0]) (hn : b + n ≤ 512) (r : Fin n) (j : Fin 512),
      act (∑ k : Fin 2048, gv m ρ n off inb (ix3 0 r k) * wv m ρ c (ix2 k j))
        = act (∑ k : Fin 2048, argX m o (ix2 ⟨b + r.val, by omega⟩ k) * argW m c (ix2 k j)) := fun o h hn r j =>
    congrArg act (Finset.sum_congr rfl fun k _ => by rw [gv_at m ρ o h r (by omega) k, hw])
  unfold pieces at hp
  simp only [List.mem_cons, List.not_mem_nil, or_false] at hp
  rcases hp with rfl | rfl | rfl | rfl | rfl | rfl | rfl | rfl
  · exact piece_at m c X W hX hW (inb := k0_off30_inb c) (b := 0) (right c) (by decide) (off30_eq c) _
      (fun r j => (pay14_at _ j _ r).trans (blk (right c) (off29_eq c) (by decide) r j)) x
  · exact piece_at m c X W hX hW (inb := k0_off27_inb c) (left c) (by decide) (off27_eq c) _
      (fun r j => (pay13_at _ j _ r).trans (blk (left c) (off26_eq c) (by decide) r j)) x
  · exact piece_at m c X W hX hW (inb := k0_off24_inb c) (right c) (by decide) (off24_eq c) _
      (fun r j => (pay12_at _ j _ r).trans (blk (right c) (off23_eq c) (by decide) r j)) x
  · exact piece_at m c X W hX hW (inb := k0_off21_inb c) (left c) (by decide) (off21_eq c) _
      (fun r j => (pay11_at _ j _ r).trans (blk (left c) (off20_eq c) (by decide) r j)) x
  · exact piece_at m c X W hX hW (inb := k0_off18_inb c) (b := 0) (across c) (by decide) (off18_eq c) _
      (fun r j => (pay10_at _ j _ r).trans (blk (across c) (off17_eq c) (by decide) r j)) x
  · exact piece_at m c X W hX hW (inb := k0_off15_inb c) (right c) (by decide) (off15_eq c) _
      (fun r j => (pay6_at _ j _ r).trans (blk (right c) (off14_eq c) (by decide) r j)) x
  · exact piece_at m c X W hX hW (inb := k0_off13_inb c) (b := 0) (left c) (by decide) (off13_eq c) _
      (fun r j => (pay5_at _ j _ r).trans (blk (left c) (off12_eq c) (by decide) r j)) x
  · refine piece_at m c X W hX hW (inb := k0_off3_inb c) (b := 0) c (by decide) (k0_off3_eq c) _ (fun r j => (pay3_at _ j _ r).trans ?_) x
    refine congrArg act (Finset.sum_congr rfl fun k _ => ?_)
    rw [hw, xv_eq m ρ c]
    exact congrArg (fun i => argX m c (ix2 i k) * _) (Fin.ext (Nat.zero_add _).symm)

/-- The output a device is left with is its columns of the activation of the whole product. -/
theorem outAt_eq (hX : ∀ c, argX m c = rowsOf c X)
    (hW : ∀ c, argW m c = colsOf c W) :
    outAt m ρ c = colsOf c (full X W) := by
  funext y
  unfold outAt
  have h := View.read_writes_apply_of_pieces oM.view (fun _ => (one32 : Ideal .f32)) (colsOf c (full X W)) (pieces m ρ c) (pieces_at m ρ c X W hX hW) y
    (pieces_cover m ρ c y)
  simp only [Memref.view_whole, View.read_whole] at h
  exact h

end Output

/-! ## The result array after the run -/

section Final

variable {F : FTy → Type} [FloatOps F]

variable (m : (ℓ : Loc nD τ sig) → Buf (Elt F) ℓ) (ρ : Dev nD → PrngReg) (c : Dev nD)

/-- The one grid point writes the output block back. -/
theorem finalA_o : (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

/-- The result array, of which the block is the whole. -/
theorem final_eq : finalA m ρ c (2 : Fin 3) = outAt m ρ c := by
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans (finalA_o m ρ c)

end Final

end Cert.AllGather

end
-- ==== Proof.Reference.lean ====
/-
# What the reference computes, over the extended reals

The reference multiplies the two whole matrices and applies the activation to each element. It forms the cube before it multiplies
by the constant, the kernel multiplies the constant in first: the two agree as multiplication is associative.
-/
module

public import proofs.«01_k».proof.Proof.Value
public import proofs.«01_k».proof.Proof.Gen.ReferenceIdeal.Run

@[expose] public section

noncomputable section

namespace Cert.AllGather

open Cert.ReferenceIdeal Cert.ReferenceIdeal.Gen
open Idealize.ShloMosaic Idealize.ShloMosaic.TcCoe Idealize.SL.Sem

/-- The reference's run: its result is the activation of the product, and its arguments stay. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = full (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  generalize m ((c.tc : Thread nD τ).loc main_arg0) = X
  generalize m ((c.tc : Thread nD τ).loc main_arg1) = W
  funext i
  obtain ⟨r, j, rfl⟩ : ∃ (r : Fin 2048) (j : Fin 2048), i = ix2 r j := ⟨i 0, i 1, pair_ext rfl rfl⟩
  pointwise [full, act]
  simp only [mul_assoc]

end Cert.AllGather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

open Cert.AllGather

/-- The run with its values dropped, over any floats: the arguments stay and every counter ends at zero. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c 0).trans (finalA_x m ρ c), (h.1 c 1).trans (finalA_w m ρ c)⟩, h.2⟩)
    (run_main m ρ)

set_option maxRecDepth 65536 in
/-- The two programs' kernel bodies have the same text. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl

/-- So have their body tables. -/
theorem tables_eq : @Cert.Kernel.defs Bits _ _ = @Cert.KernelIdeal.defs Bits _ _ :=
  congrArg (Pipeline.defs (Cert.Kernel.pcfgs (F := Bits))) bodies_eq

/-- The kernel's frame: the two programs have the same text, so it is the run with floats as their bits. -/
theorem frame_kernel : Cert.quiescent_Kernel := fun m ρ _ => by
  rw [tables_eq]
  exact frame_run (F := Bits) m ρ

/-- The ideal kernel's frame: the run over the extended reals. -/
theorem frame_ideal : Cert.quiescent_KernelIdeal := fun m ρ _ => frame_run (F := Ideal) m ρ

/-- The reference's frame. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Each device's result is its columns of the reference's result. -/
theorem value : Cert.algebraic_KernelIdeal_ReferenceIdeal := fun m ρ m' ρ' _ hin =>
  ⟨_, (θ_run Cert.KernelIdeal.defs _ _).mono
    (fun _ h c => ⟨(h.1 c 2).trans ((final_eq (F := Ideal) m ρ c).trans
        (outAt_eq m ρ c _ _ (fun c => (hin c).1) (fun c => (hin c).2))),
      (h.1 c 0).trans (finalA_x (F := Ideal) m ρ c), (h.1 c 1).trans (finalA_w (F := Ideal) m ρ c)⟩)
    (run_main (F := Ideal) m ρ),
   (θ_run Cert.ReferenceIdeal.defs _ _).mono (fun _ h => h 0) (reference_run m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
